-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x11264 : Shape := ⟨3, ![4, 6144, 11264]⟩
abbrev S11264x8192 : Shape := ⟨2, ![11264, 8192]⟩
abbrev S8192 : Shape := ⟨1, ![8192]⟩
abbrev S4x6144x8192 : Shape := ⟨3, ![4, 6144, 8192]⟩
abbrev S24576x11264 : Shape := ⟨2, ![24576, 11264]⟩
abbrev S24576x1 : Shape := ⟨2, ![24576, 1]⟩
abbrev S256x11264 : Shape := ⟨2, ![256, 11264]⟩
abbrev S256x1 : Shape := ⟨2, ![256, 1]⟩
abbrev S256 : Shape := ⟨1, ![256]⟩
abbrev S1x8192 : Shape := ⟨2, ![1, 8192]⟩
abbrev S24576x8192 : Shape := ⟨2, ![24576, 8192]⟩
abbrev S24576x64 : Shape := ⟨2, ![24576, 64]⟩
abbrev S512x11264 : Shape := ⟨2, ![512, 11264]⟩
abbrev S512x1 : Shape := ⟨2, ![512, 1]⟩
abbrev S11264x512 : Shape := ⟨2, ![11264, 512]⟩
abbrev S1x512 : Shape := ⟨2, ![1, 512]⟩
abbrev S512x512 : Shape := ⟨2, ![512, 512]⟩
abbrev S512x8192 : Shape := ⟨2, ![512, 8192]⟩
abbrev S512x64 : Shape := ⟨2, ![512, 64]⟩
abbrev S16x512x512 : Shape := ⟨3, ![16, 512, 512]⟩
abbrev S1x512x512 : Shape := ⟨3, ![1, 512, 512]⟩
abbrev S32x1 : Shape := ⟨2, ![32, 1]⟩
abbrev S1x32x512 : Shape := ⟨3, ![1, 32, 512]⟩
abbrev S32x512 : Shape := ⟨2, ![32, 512]⟩
abbrev S32 : Shape := ⟨1, ![32]⟩
abbrev S32x128 : Shape := ⟨2, ![32, 128]⟩
abbrev S32x64 : Shape := ⟨2, ![32, 64]⟩
abbrev S4x6144x1 : Shape := ⟨3, ![4, 6144, 1]⟩
abbrev S4x6144x64 : Shape := ⟨3, ![4, 6144, 64]⟩

abbrev nBuf : Space → Nat
  | .hbm => 19
  | .vmem => 24
  | .smem => 0
  | _ => 0

abbrev bufTy : (tb : Table) → Fin (tcTables nBuf tb) → BufTy
  | .hbm, ⟨0, _⟩ => ⟨S4x6144x11264, .bf16⟩
  | .hbm, ⟨1, _⟩ => ⟨S11264x8192, .fp8e4m3⟩
  | .hbm, ⟨2, _⟩ => ⟨S8192, .f32⟩
  | .hbm, ⟨3, _⟩ => ⟨S4x6144x8192, .bf16⟩
  | .hbm, ⟨4, _⟩ => ⟨S8192, .bf16⟩
  | .hbm, ⟨5, _⟩ => ⟨S24576x11264, .bf16⟩
  | .hbm, ⟨6, _⟩ => ⟨S24576x11264, .fp8e4m3⟩
  | .hbm, ⟨7, _⟩ => ⟨S24576x1, .f32⟩
  | .hbm, ⟨8, _⟩ => ⟨S1x8192, .f32⟩
  | .hbm, ⟨9, _⟩ => ⟨S24576x8192, .bf16⟩
  | .hbm, ⟨10, _⟩ => ⟨S1x8192, .bf16⟩
  | .hbm, ⟨11, _⟩ => ⟨S24576x8192, .bf16⟩
  | .hbm, ⟨12, _⟩ => ⟨S24576x8192, .fp8e4m3⟩
  | .hbm, ⟨13, _⟩ => ⟨S24576x64, .f32⟩
  | .hbm, ⟨14, _⟩ => ⟨S4x6144x8192, .bf16⟩
  | .hbm, ⟨15, _⟩ => ⟨S4x6144x11264, .fp8e4m3⟩
  | .hbm, ⟨16, _⟩ => ⟨S4x6144x1, .f32⟩
  | .hbm, ⟨17, _⟩ => ⟨S4x6144x8192, .fp8e4m3⟩
  | .hbm, ⟨18, _⟩ => ⟨S4x6144x64, .f32⟩
  | .local _ .vmem, ⟨0, _⟩ => ⟨S256x11264, .bf16⟩
  | .local _ .vmem, ⟨1, _⟩ => ⟨S256x11264, .bf16⟩
  | .local _ .vmem, ⟨2, _⟩ => ⟨S256x11264, .fp8e4m3⟩
  | .local _ .vmem, ⟨3, _⟩ => ⟨S256x11264, .fp8e4m3⟩
  | .local _ .vmem, ⟨4, _⟩ => ⟨S256x1, .f32⟩
  | .local _ .vmem, ⟨5, _⟩ => ⟨S256x1, .f32⟩
  | .local _ .vmem, ⟨6, _⟩ => ⟨S512x11264, .fp8e4m3⟩
  | .local _ .vmem, ⟨7, _⟩ => ⟨S512x11264, .fp8e4m3⟩
  | .local _ .vmem, ⟨8, _⟩ => ⟨S512x1, .f32⟩
  | .local _ .vmem, ⟨9, _⟩ => ⟨S512x1, .f32⟩
  | .local _ .vmem, ⟨10, _⟩ => ⟨S11264x512, .fp8e4m3⟩
  | .local _ .vmem, ⟨11, _⟩ => ⟨S11264x512, .fp8e4m3⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S1x8192, .bf16⟩
  | .local _ .vmem, ⟨17, _⟩ => ⟨S512x512, .bf16⟩
  | .local _ .vmem, ⟨18, _⟩ => ⟨S512x512, .bf16⟩
  | .local _ .vmem, ⟨19, _⟩ => ⟨S512x8192, .fp8e4m3⟩
  | .local _ .vmem, ⟨20, _⟩ => ⟨S512x8192, .fp8e4m3⟩
  | .local _ .vmem, ⟨21, _⟩ => ⟨S512x64, .f32⟩
  | .local _ .vmem, ⟨22, _⟩ => ⟨S512x64, .f32⟩
  | .local _ .vmem, ⟨23, _⟩ => ⟨S16x512x512, .bf16⟩
  | _, _ => ⟨S4x6144x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x11264 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![48, 16], ![false, false]⟩

def k1_off1 (i : grid1.Coords) : Fin 3 → Nat :=
  let arg1 : BitVec 32 := BitVec.ofNat 32 (i 1).val
  let v18 : Index := Scalar.indexCast arg1
  let c0_11 : Index := 0#32
  let c0_12 : Index := 0#32
  ![v18.toNat, 0, 0]
def k1_cond1 (i : grid1.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32 : BitVec 32 := 0#32
  let v24 : BitVec 1 := Scalar.cmpi .ne v23 c0_i32
  v24

@[reducible] def k1_t1_loop : Scf.Loop 32 :=
  let c0_i32_13 : BitVec 32 := 0#32
  let c16_i32 : BitVec 32 := 16#32
  let v25 : BitVec 32 := Scalar.addi c0_i32_13 c16_i32
  let c1_i32 : BitVec 32 := 1#32
  ⟨c0_i32_13, v25, c1_i32⟩
def k1_off2 (k1_t1 : Fin k1_t1_loop.trips) : Fin 3 → Nat :=
  let c0_16 : Index := 0#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v28 : Index := Scalar.indexCast v26
  let c0_17 : Index := 0#32
  ![0, v28.toNat, 0]
def k1_off3 (k1_t1 : Fin k1_t1_loop.trips) : Fin 3 → Nat :=
  let c1 : Index := 1#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v36 : Index := Scalar.indexCast v26
  let c0_19 : Index := 0#32
  ![1, v36.toNat, 0]
def k1_off4 (k1_t1 : Fin k1_t1_loop.trips) : Fin 3 → Nat :=
  let c2 : Index := 2#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v44 : Index := Scalar.indexCast v26
  let c0_21 : Index := 0#32
  ![2, v44.toNat, 0]
def k1_off5 (k1_t1 : Fin k1_t1_loop.trips) : Fin 3 → Nat :=
  let c3 : Index := 3#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v52 : Index := Scalar.indexCast v26
  let c0_23 : Index := 0#32
  ![3, v52.toNat, 0]
def k1_off6 (k1_t1 : Fin k1_t1_loop.trips) : Fin 3 → Nat :=
  let c4 : Index := 4#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v60 : Index := Scalar.indexCast v26
  let c0_25 : Index := 0#32
  ![4, v60.toNat, 0]
def k1_off7 (k1_t1 : Fin k1_t1_loop.trips) : Fin 3 → Nat :=
  let c5 : Index := 5#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v68 : Index := Scalar.indexCast v26
  let c0_27 : Index := 0#32
  ![5, v68.toNat, 0]
def k1_off8 (k1_t1 : Fin k1_t1_loop.trips) : Fin 3 → Nat :=
  let c6 : Index := 6#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v76 : Index := Scalar.indexCast v26
  let c0_29 : Index := 0#32
  ![6, v76.toNat, 0]
def k1_off9 (k1_t1 : Fin k1_t1_loop.trips) : Fin 3 → Nat :=
  let c7 : Index := 7#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v84 : Index := Scalar.indexCast v26
  let c0_31 : Index := 0#32
  ![7, v84.toNat, 0]
def k1_off10 (k1_t1 : Fin k1_t1_loop.trips) : Fin 3 → Nat :=
  let c8 : Index := 8#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v92 : Index := Scalar.indexCast v26
  let c0_33 : Index := 0#32
  ![8, v92.toNat, 0]
def k1_off11 (k1_t1 : Fin k1_t1_loop.trips) : Fin 3 → Nat :=
  let c9 : Index := 9#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v100 : Index := Scalar.indexCast v26
  let c0_35 : Index := 0#32
  ![9, v100.toNat, 0]
def k1_off12 (k1_t1 : Fin k1_t1_loop.trips) : Fin 3 → Nat :=
  let c10 : Index := 10#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v108 : Index := Scalar.indexCast v26
  let c0_37 : Index := 0#32
  ![10, v108.toNat, 0]
def k1_off13 (k1_t1 : Fin k1_t1_loop.trips) : Fin 3 → Nat :=
  let c11 : Index := 11#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v116 : Index := Scalar.indexCast v26
  let c0_39 : Index := 0#32
  ![11, v116.toNat, 0]
def k1_off14 (k1_t1 : Fin k1_t1_loop.trips) : Fin 3 → Nat :=
  let c12 : Index := 12#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v124 : Index := Scalar.indexCast v26
  let c0_41 : Index := 0#32
  ![12, v124.toNat, 0]
def k1_off15 (k1_t1 : Fin k1_t1_loop.trips) : Fin 3 → Nat :=
  let c13 : Index := 13#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v132 : Index := Scalar.indexCast v26
  let c0_43 : Index := 0#32
  ![13, v132.toNat, 0]
def k1_off16 (k1_t1 : Fin k1_t1_loop.trips) : Fin 3 → Nat :=
  let c14 : Index := 14#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v140 : Index := Scalar.indexCast v26
  let c0_45 : Index := 0#32
  ![14, v140.toNat, 0]
def k1_off17 (k1_t1 : Fin k1_t1_loop.trips) : Fin 3 → Nat :=
  let c15 : Index := 15#32
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v148 : Index := Scalar.indexCast v26
  let c0_47 : Index := 0#32
  ![15, v148.toNat, 0]
def k1_off18 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v243 : Index := Scalar.indexCast v26
  let c0_64 : Index := 0#32
  ![v243.toNat, 0]
def k1_off19 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v316 : Index := Scalar.indexCast v26
  let c128 : Index := 128#32
  ![v316.toNat, 128]
def k1_off20 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v389 : Index := Scalar.indexCast v26
  let c256 : Index := 256#32
  ![v389.toNat, 256]
def k1_off21 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v462 : Index := Scalar.indexCast v26
  let c384 : Index := 384#32
  ![v462.toNat, 384]
def k1_off22 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v546 : Index := Scalar.indexCast v26
  let c512_148 : Index := 512#32
  ![v546.toNat, 512]
def k1_off23 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v619 : Index := Scalar.indexCast v26
  let c640 : Index := 640#32
  ![v619.toNat, 640]
def k1_off24 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v692 : Index := Scalar.indexCast v26
  let c768 : Index := 768#32
  ![v692.toNat, 768]
def k1_off25 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v765 : Index := Scalar.indexCast v26
  let c896 : Index := 896#32
  ![v765.toNat, 896]
def k1_off26 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v849 : Index := Scalar.indexCast v26
  let c1024_232 : Index := 1024#32
  ![v849.toNat, 1024]
def k1_off27 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v922 : Index := Scalar.indexCast v26
  let c1152 : Index := 1152#32
  ![v922.toNat, 1152]
def k1_off28 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v995 : Index := Scalar.indexCast v26
  let c1280 : Index := 1280#32
  ![v995.toNat, 1280]
def k1_off29 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1068 : Index := Scalar.indexCast v26
  let c1408 : Index := 1408#32
  ![v1068.toNat, 1408]
def k1_off30 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1152 : Index := Scalar.indexCast v26
  let c1536_316 : Index := 1536#32
  ![v1152.toNat, 1536]
def k1_off31 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1225 : Index := Scalar.indexCast v26
  let c1664 : Index := 1664#32
  ![v1225.toNat, 1664]
def k1_off32 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1298 : Index := Scalar.indexCast v26
  let c1792 : Index := 1792#32
  ![v1298.toNat, 1792]
def k1_off33 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1371 : Index := Scalar.indexCast v26
  let c1920 : Index := 1920#32
  ![v1371.toNat, 1920]
def k1_off34 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1455 : Index := Scalar.indexCast v26
  let c2048_400 : Index := 2048#32
  ![v1455.toNat, 2048]
def k1_off35 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1528 : Index := Scalar.indexCast v26
  let c2176 : Index := 2176#32
  ![v1528.toNat, 2176]
def k1_off36 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1601 : Index := Scalar.indexCast v26
  let c2304 : Index := 2304#32
  ![v1601.toNat, 2304]
def k1_off37 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1674 : Index := Scalar.indexCast v26
  let c2432 : Index := 2432#32
  ![v1674.toNat, 2432]
def k1_off38 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1758 : Index := Scalar.indexCast v26
  let c2560_484 : Index := 2560#32
  ![v1758.toNat, 2560]
def k1_off39 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1831 : Index := Scalar.indexCast v26
  let c2688 : Index := 2688#32
  ![v1831.toNat, 2688]
def k1_off40 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1904 : Index := Scalar.indexCast v26
  let c2816 : Index := 2816#32
  ![v1904.toNat, 2816]
def k1_off41 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v1977 : Index := Scalar.indexCast v26
  let c2944 : Index := 2944#32
  ![v1977.toNat, 2944]
def k1_off42 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2061 : Index := Scalar.indexCast v26
  let c3072_568 : Index := 3072#32
  ![v2061.toNat, 3072]
def k1_off43 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2134 : Index := Scalar.indexCast v26
  let c3200 : Index := 3200#32
  ![v2134.toNat, 3200]
def k1_off44 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2207 : Index := Scalar.indexCast v26
  let c3328 : Index := 3328#32
  ![v2207.toNat, 3328]
def k1_off45 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2280 : Index := Scalar.indexCast v26
  let c3456 : Index := 3456#32
  ![v2280.toNat, 3456]
def k1_off46 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2364 : Index := Scalar.indexCast v26
  let c3584_652 : Index := 3584#32
  ![v2364.toNat, 3584]
def k1_off47 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2437 : Index := Scalar.indexCast v26
  let c3712 : Index := 3712#32
  ![v2437.toNat, 3712]
def k1_off48 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2510 : Index := Scalar.indexCast v26
  let c3840 : Index := 3840#32
  ![v2510.toNat, 3840]
def k1_off49 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2583 : Index := Scalar.indexCast v26
  let c3968 : Index := 3968#32
  ![v2583.toNat, 3968]
def k1_off50 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2667 : Index := Scalar.indexCast v26
  let c4096_736 : Index := 4096#32
  ![v2667.toNat, 4096]
def k1_off51 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2740 : Index := Scalar.indexCast v26
  let c4224 : Index := 4224#32
  ![v2740.toNat, 4224]
def k1_off52 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2813 : Index := Scalar.indexCast v26
  let c4352 : Index := 4352#32
  ![v2813.toNat, 4352]
def k1_off53 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2886 : Index := Scalar.indexCast v26
  let c4480 : Index := 4480#32
  ![v2886.toNat, 4480]
def k1_off54 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v2970 : Index := Scalar.indexCast v26
  let c4608_820 : Index := 4608#32
  ![v2970.toNat, 4608]
def k1_off55 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3043 : Index := Scalar.indexCast v26
  let c4736 : Index := 4736#32
  ![v3043.toNat, 4736]
def k1_off56 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3116 : Index := Scalar.indexCast v26
  let c4864 : Index := 4864#32
  ![v3116.toNat, 4864]
def k1_off57 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3189 : Index := Scalar.indexCast v26
  let c4992 : Index := 4992#32
  ![v3189.toNat, 4992]
def k1_off58 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3273 : Index := Scalar.indexCast v26
  let c5120_904 : Index := 5120#32
  ![v3273.toNat, 5120]
def k1_off59 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3346 : Index := Scalar.indexCast v26
  let c5248 : Index := 5248#32
  ![v3346.toNat, 5248]
def k1_off60 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3419 : Index := Scalar.indexCast v26
  let c5376 : Index := 5376#32
  ![v3419.toNat, 5376]
def k1_off61 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3492 : Index := Scalar.indexCast v26
  let c5504 : Index := 5504#32
  ![v3492.toNat, 5504]
def k1_off62 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3576 : Index := Scalar.indexCast v26
  let c5632_988 : Index := 5632#32
  ![v3576.toNat, 5632]
def k1_off63 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3649 : Index := Scalar.indexCast v26
  let c5760 : Index := 5760#32
  ![v3649.toNat, 5760]
def k1_off64 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3722 : Index := Scalar.indexCast v26
  let c5888 : Index := 5888#32
  ![v3722.toNat, 5888]
def k1_off65 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3795 : Index := Scalar.indexCast v26
  let c6016 : Index := 6016#32
  ![v3795.toNat, 6016]
def k1_off66 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3879 : Index := Scalar.indexCast v26
  let c6144_1072 : Index := 6144#32
  ![v3879.toNat, 6144]
def k1_off67 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v3952 : Index := Scalar.indexCast v26
  let c6272 : Index := 6272#32
  ![v3952.toNat, 6272]
def k1_off68 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4025 : Index := Scalar.indexCast v26
  let c6400 : Index := 6400#32
  ![v4025.toNat, 6400]
def k1_off69 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4098 : Index := Scalar.indexCast v26
  let c6528 : Index := 6528#32
  ![v4098.toNat, 6528]
def k1_off70 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4182 : Index := Scalar.indexCast v26
  let c6656_1156 : Index := 6656#32
  ![v4182.toNat, 6656]
def k1_off71 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4255 : Index := Scalar.indexCast v26
  let c6784 : Index := 6784#32
  ![v4255.toNat, 6784]
def k1_off72 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4328 : Index := Scalar.indexCast v26
  let c6912 : Index := 6912#32
  ![v4328.toNat, 6912]
def k1_off73 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4401 : Index := Scalar.indexCast v26
  let c7040 : Index := 7040#32
  ![v4401.toNat, 7040]
def k1_off74 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4485 : Index := Scalar.indexCast v26
  let c7168_1240 : Index := 7168#32
  ![v4485.toNat, 7168]
def k1_off75 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4558 : Index := Scalar.indexCast v26
  let c7296 : Index := 7296#32
  ![v4558.toNat, 7296]
def k1_off76 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4631 : Index := Scalar.indexCast v26
  let c7424 : Index := 7424#32
  ![v4631.toNat, 7424]
def k1_off77 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4704 : Index := Scalar.indexCast v26
  let c7552 : Index := 7552#32
  ![v4704.toNat, 7552]
def k1_off78 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4788 : Index := Scalar.indexCast v26
  let c7680_1324 : Index := 7680#32
  ![v4788.toNat, 7680]
def k1_off79 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4861 : Index := Scalar.indexCast v26
  let c7808 : Index := 7808#32
  ![v4861.toNat, 7808]
def k1_off80 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v4934 : Index := Scalar.indexCast v26
  let c7936 : Index := 7936#32
  ![v4934.toNat, 7936]
def k1_off81 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v5007 : Index := Scalar.indexCast v26
  let c8064 : Index := 8064#32
  ![v5007.toNat, 8064]
def k1_off82 (k1_t1 : Fin k1_t1_loop.trips) : Fin 2 → Nat :=
  let c0_i32_13 : BitVec 32 := 0#32
  let c1_i32 : BitVec 32 := 1#32
  let arg12 : BitVec 32 := Scf.iv c0_i32_13 c1_i32 k1_t1
  let c32_i32 : BitVec 32 := 32#32
  let v26 : BitVec 32 := Scalar.muli arg12 c32_i32
  let v5010 : Index := Scalar.indexCast v26
  let c0_1385 : Index := 0#32
  ![v5010.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x11264 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S11264x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x8192 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x8192 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S4x6144x11264 : Shape := ⟨3, ![4, 6144, 11264]⟩
abbrev S11264x8192 : Shape := ⟨2, ![11264, 8192]⟩
abbrev S8192 : Shape := ⟨1, ![8192]⟩
abbrev S4x6144x8192 : Shape := ⟨3, ![4, 6144, 8192]⟩
abbrev S24576x11264 : Shape := ⟨2, ![24576, 11264]⟩
abbrev S1x8192 : Shape := ⟨2, ![1, 8192]⟩
abbrev S24576x8192 : Shape := ⟨2, ![24576, 8192]⟩
abbrev S24576x1 : Shape := ⟨2, ![24576, 1]⟩
abbrev S24576x64 : Shape := ⟨2, ![24576, 64]⟩
abbrev S24576x1x11264 : Shape := ⟨3, ![24576, 1, 11264]⟩
abbrev S24576x1x1 : Shape := ⟨3, ![24576, 1, 1]⟩
abbrev S24576 : Shape := ⟨1, ![24576]⟩
abbrev S24576x64x128 : Shape := ⟨3, ![24576, 64, 128]⟩
abbrev S24576x64x1 : Shape := ⟨3, ![24576, 64, 1]⟩
abbrev S4x6144x1 : Shape := ⟨3, ![4, 6144, 1]⟩
abbrev S4x6144x64 : Shape := ⟨3, ![4, 6144, 64]⟩

abbrev nBuf : Space → Nat
  | .hbm => 19
  | .vmem => 10
  | .smem => 0
  | _ => 0

abbrev bufTy : (tb : Table) → Fin (tcTables nBuf tb) → BufTy
  | .hbm, ⟨0, _⟩ => ⟨S4x6144x11264, .bf16⟩
  | .hbm, ⟨1, _⟩ => ⟨S11264x8192, .fp8e4m3⟩
  | .hbm, ⟨2, _⟩ => ⟨S8192, .f32⟩
  | .hbm, ⟨3, _⟩ => ⟨S4x6144x8192, .bf16⟩
  | .hbm, ⟨4, _⟩ => ⟨S8192, .bf16⟩
  | .hbm, ⟨5, _⟩ => ⟨S24576x11264, .bf16⟩
  | .hbm, ⟨6, _⟩ => ⟨S1x8192, .f32⟩
  | .hbm, ⟨7, _⟩ => ⟨S24576x8192, .bf16⟩
  | .hbm, ⟨8, _⟩ => ⟨S1x8192, .bf16⟩
  | .hbm, ⟨9, _⟩ => ⟨S24576x8192, .bf16⟩
  | .hbm, ⟨10, _⟩ => ⟨S24576x11264, .fp8e4m3⟩
  | .hbm, ⟨11, _⟩ => ⟨S24576x1, .f32⟩
  | .hbm, ⟨12, _⟩ => ⟨S24576x8192, .fp8e4m3⟩
  | .hbm, ⟨13, _⟩ => ⟨S24576x64, .f32⟩
  | .hbm, ⟨14, _⟩ => ⟨S4x6144x8192, .bf16⟩
  | .hbm, ⟨15, _⟩ => ⟨S4x6144x11264, .fp8e4m3⟩
  | .hbm, ⟨16, _⟩ => ⟨S4x6144x1, .f32⟩
  | .hbm, ⟨17, _⟩ => ⟨S4x6144x8192, .fp8e4m3⟩
  | .hbm, ⟨18, _⟩ => ⟨S4x6144x64, .f32⟩
  | .local _ .vmem, ⟨0, _⟩ => ⟨S24576x11264, .bf16⟩
  | .local _ .vmem, ⟨1, _⟩ => ⟨S11264x8192, .fp8e4m3⟩
  | .local _ .vmem, ⟨2, _⟩ => ⟨S1x8192, .f32⟩
  | .local _ .vmem, ⟨3, _⟩ => ⟨S24576x8192, .bf16⟩
  | .local _ .vmem, ⟨4, _⟩ => ⟨S1x8192, .bf16⟩
  | .local _ .vmem, ⟨5, _⟩ => ⟨S24576x8192, .bf16⟩
  | .local _ .vmem, ⟨6, _⟩ => ⟨S24576x11264, .fp8e4m3⟩
  | .local _ .vmem, ⟨7, _⟩ => ⟨S24576x1, .f32⟩
  | .local _ .vmem, ⟨8, _⟩ => ⟨S24576x8192, .fp8e4m3⟩
  | .local _ .vmem, ⟨9, _⟩ => ⟨S24576x64, .f32⟩
  | _, _ => ⟨S4x6144x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11264x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x11264 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BitsRegion0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x11264 := Rect.unit (s := S256x11264) ![0, 0] S256x11264.size inb_S256x11264_S256x11264_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out (`unfold_out out0_W` opens a canon
    with them, `unfold_payloads` opens them with the payloads); the comment after each is the printed function's
    name for the value (a count appended where that name is bound again). -/

def k0_pay8 (x0 : Vec F S256x11264 .bf16) : FVec F S256x1 .f32 :=
  k0_pay5 (View.ld x0 r0_0) -- `v7`
def k0_pay9 (x0 : Vec F S256x11264 .bf16) : IVec S256x1 32 :=
  k0_pay6 (View.ld x0 r0_0) -- `v43`
def k0_pay10 (x0 : Vec F S256x11264 .bf16) : IVec S256x1 32 :=
  k0_pay7 (View.ld x0 r0_0) -- `v45`

/-- Window 1's staging buffer after the body, from the input windows' blocks: its 1 store as pieces, LAST
    FIRST (Lib/Pipeline/FrameBody.lean `View.canon`; the payloads are the skeleton's and the values stated above). -/
def out0_1 (x0 : Vec F S256x11264 .bf16) : Vec F S256x11264 .fp8e4m3 :=
  View.canon [⟨r0_0, k0_pay3 (k0_pay4 (View.ld x0 r0_0)) (k0_pay8 x0) (k0_pay9 x0) (k0_pay10 x0)⟩]

/-- Its stores tile the buffer (checked by evaluation), so they cover it. -/
theorem cover0_1 (p0 : Vec F S256x11264 .fp8e4m3) (y : S256x11264.Idx) :
    ∃ pc ∈ ([⟨r0_0, p0⟩] : List (View.Piece (Elt F) S256x11264 .fp8e4m3)), y ∈ pc.1.set :=
  View.cover_of_tiled [⟨r0_0, p0⟩] S256x11264.size (by rfl) y

/-- Window 2's staging buffer after the body, from the input windows' blocks: its 1 store as pieces, LAST
    FIRST (Lib/Pipeline/FrameBody.lean `View.canon`; the payloads are the skeleton's and the values stated above). -/
def out0_2 (x0 : Vec F S256x11264 .bf16) : Vec F S256x1 .f32 :=
  View.canon [⟨r0_1, k0_pay2 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x11264 .bf16) (harg1 : arg1.IsWhole) (arg2 : Memref sig .tc .vmem S256x11264 .fp8e4m3) (harg2 : arg2.IsWhole) (arg3 : Memref sig .tc .vmem S256x1 .f32) (harg3 : arg3.IsWhole)
    (x0 : Vec F S256x11264 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_oproj_norm_quant` (pipeline 1), at the entry contents `V` — class R -/

end Regions

end Cert.Kernel.Run
end
-- ==== Proof.BitsTrip.lean ====
module

public import proofs.«01_k».proof.Proof.Gen.Kernel.Loops
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- One step of the search for the exponent word: take the bit `b` if the float of the extended word
    still does not exceed `a`. -/
def stepBits {S : Shape} (a : FVec F S .f32) (e : IVec S 32) (b : BitVec 32) : IVec S 32 :=
  select (cmpf .ole (bitcastToFloat .f32 (addi e (broadcast S b))) a) (addi e (broadcast S b)) e

/-- The exponent word of the power of two not above `a`, bit by bit from the top. -/
def searchBits {S : Shape} (a : FVec F S .f32) : IVec S 32 :=
  stepBits a (stepBits a (stepBits a (stepBits a (stepBits a (stepBits a (stepBits a (stepBits a
    (broadcast S 0#32) 1073741824#32) 536870912#32) 268435456#32) 134217728#32) 67108864#32)
    33554432#32) 16777216#32) 8388608#32

/-- The exponent word with the top of the range sent to the infinite exponent. -/
def expBits {S : Shape} (a : FVec F S .f32) : IVec S 32 :=
  select (cmpf .oge a (broadcast S (Scalar.ofBits .f32 0x7E800000#32))) (broadcast S 2139095040#32) (searchBits a)

/-- The word of the scale: one step above the exponent, and the word of 1 at the two ends. -/
def scaleBits {S : Shape} (a : FVec F S .f32) : IVec S 32 :=
  select (ori (cmpi .eq (expBits a) (broadcast S 0#32)) (cmpi .eq (expBits a) (broadcast S 2139095040#32)))
    (broadcast S 1065353216#32) (addi (expBits a) (broadcast S 8388608#32))

/-- The scale a group's scaled maximum `a` calls for. -/
def scaleOf {S : Shape} (a : FVec F S .f32) : FVec F S .f32 := bitcastToFloat .f32 (scaleBits a)

/-- The reciprocal of the scale. -/
def invScaleOf {S : Shape} (a : FVec F S .f32) : FVec F S .f32 :=
  bitcastToFloat .f32 (subi (broadcast S 2130706432#32) (scaleBits a))

/-- A group's largest absolute value over 448. -/
def groupAmax (n : FVec F S32x128 .f32) : FVec F S32x1 .f32 :=
  mulf (shapeCast S32x1 (multiReduction .maximumf [1] S32 (absf n) 0xFF800000#32 reduces_S32x128_S32 (.inl rfl) rfl) shapeCasts_S32_S32x1)
    (broadcast S32x1 (Scalar.ofBits .f32 0x3B124925#32))

/-- A group's fp8 codes. -/
def groupCodes (n : FVec F S32x128 .f32) : FVec F S32x128 .fp8e4m3 :=
  truncf .fp8e4m3
    (minimumf (broadcast S32x128 (Scalar.ofBits .f32 0x43E00000#32))
      (maximumf (broadcast S32x128 (Scalar.ofBits .f32 0xC3E00000#32))
        (mulf n (broadcastTo S32x128 (invScaleOf (groupAmax n)) broadcasts_S32x1_S32x128)))) bitsLt_fp8e4m3_f32

/-- A group's scales. -/
def groupScale (n : FVec F S32x128 .f32) : FVec F S32x1 .f32 := scaleOf (groupAmax n)

/-- The four 128-column groups of a 512-column block. -/
def groupOf (n : FVec F S32x512 .f32) : Fin 4 → FVec F S32x128 .f32
  | 0 => extractStridedSlice S32x128 ![0, 0] n slices_S32x512_o0_0_S32x128
  | 1 => extractStridedSlice S32x128 ![0, 128] n slices_S32x512_o0_128_S32x128
  | 2 => extractStridedSlice S32x128 ![0, 256] n slices_S32x512_o0_256_S32x128
  | 3 => extractStridedSlice S32x128 ![0, 384] n slices_S32x512_o0_384_S32x128

/-- One block's row sums of squares. -/
def blockSq (v : Vec F S1x32x512 .bf16) : FVec F S32x1 .f32 :=
  shapeCast S32x1 (multiReduction .add [1] S32
    (mulf (extf .f32 (shapeCast S32x512 v shapeCasts_S1x32x512_S32x512) bitsLt_bf16_f32)
      (extf .f32 (shapeCast S32x512 v shapeCasts_S1x32x512_S32x512) bitsLt_bf16_f32))
    0x00000000#32 reduces_S32x512_S32 (.inl rfl) rfl) shapeCasts_S32_S32x1

/-- The running row sums of squares over the first `n` blocks. -/
def sumSq (v : Fin 16 → Vec F S1x32x512 .bf16) : (n : ℕ) → n ≤ 16 → FVec F S32x1 .f32
  | 0, _ => broadcast S32x1 (Scalar.ofBits .f32 0x00000000#32)
  | n + 1, h => addf (sumSq v n (Nat.le_of_succ_le h)) (blockSq (v ⟨n, h⟩))

/-- The reciprocal root mean square of each row. -/
def invRms (ss : FVec F S32x1 .f32) : FVec F S32x1 .f32 :=
  rsqrt (addf (mulf ss (broadcast S32x1 (Scalar.ofBits .f32 0x39000000#32))) (broadcast S32x1 (Scalar.ofBits .f32 0x358637BD#32)))

/-- A normalised block. -/
def normed (ss : FVec F S32x1 .f32) (v : Vec F S1x32x512 .bf16) (g : Vec F S1x512 .bf16) : FVec F S32x512 .f32 :=
  mulf (mulf (extf .f32 (shapeCast S32x512 v shapeCasts_S1x32x512_S32x512) bitsLt_bf16_f32)
      (broadcastTo S32x512 (invRms ss) broadcasts_S32x1_S32x512))
    (broadcastTo S32x512 (extf .f32 (shapeCast S1x512 g shapeCasts_S1x512_S1x512) bitsLt_bf16_f32) broadcasts_S1x512_S32x512)

/-- The first row trip `k` treats, as the kernel's words give it. -/
def rowAt (k : Fin k1_t1_loop.trips) : ℕ := k1_off2 k 1

theorem rowAt_eq : ∀ k : Fin k1_t1_loop.trips, rowAt k = 32 * k.val := by decide +kernel

theorem trips_le : k1_t1_loop.trips ≤ 16 := by decide +kernel

theorem slot_inb (k : Fin k1_t1_loop.trips) (t : Fin 16) :
    ∀ a, (![t.val, rowAt k, 0] : Fin 3 → ℕ) a + S1x32x512.size a ≤ S16x512x512.size a := by
  have h1 := rowAt_eq k
  have h2 := lt_of_lt_of_le k.isLt trips_le
  intro a
  fin_cases a
  · show t.val + 1 ≤ 16; omega
  · show rowAt k + 32 ≤ 512; omega
  · show 0 + 512 ≤ 512; omega

theorem gam_inb (t : Fin 16) :
    ∀ a, (![0, 512 * t.val] : Fin 2 → ℕ) a + S1x512.size a ≤ S1x8192.size a := by
  intro a
  fin_cases a
  · show 0 + 1 ≤ 1; omega
  · show 512 * t.val + 512 ≤ 8192; omega

theorem y_inb (k : Fin k1_t1_loop.trips) (g : Fin 64) :
    ∀ a, (![rowAt k, 128 * g.val] : Fin 2 → ℕ) a + S32x128.size a ≤ S512x8192.size a := by
  have h1 := rowAt_eq k
  have h2 := lt_of_lt_of_le k.isLt trips_le
  intro a
  fin_cases a
  · show rowAt k + 32 ≤ 512; omega
  · show 128 * g.val + 128 ≤ 8192; omega

theorem s_inb (k : Fin k1_t1_loop.trips) :
    ∀ a, (![rowAt k, 0] : Fin 2 → ℕ) a + S32x64.size a ≤ S512x64.size a := by
  have h1 := rowAt_eq k
  have h2 := lt_of_lt_of_le k.isLt trips_le
  intro a
  fin_cases a
  · show rowAt k + 32 ≤ 512; omega
  · show 0 + 64 ≤ 64; omega

/-- The 32 rows trip `k` treats of block `t` of the scratch. -/
def slot (X : Vec F S16x512x512 .bf16) (k : Fin k1_t1_loop.trips) (t : Fin 16) : Vec F S1x32x512 .bf16 :=
  View.ld X (Rect.unit (s := S16x512x512) ![t.val, rowAt k, 0] S1x32x512.size (slot_inb k t))

/-- The part of gamma that belongs to block `t`. -/
def gam (G : Vec F S1x8192 .bf16) (t : Fin 16) : Vec F S1x512 .bf16 :=
  View.ld G (Rect.unit (s := S1x8192) ![0, 512 * t.val] S1x512.size (gam_inb t))

/-- The normalised values of group `g` in trip `k`. -/
def groupN (X : Vec F S16x512x512 .bf16) (G : Vec F S1x8192 .bf16) (k : Fin k1_t1_loop.trips) (g : Fin 64) : FVec F S32x128 .f32 :=
  groupOf (normed (sumSq (slot X k) 16 (Nat.le_refl 16)) (slot X k ⟨g.val / 4, by omega⟩) (gam G ⟨g.val / 4, by omega⟩)) ⟨g.val % 4, by omega⟩

/-- The codes trip `k` stores, group by group, the last one first. -/
def yPieces (X : Vec F S16x512x512 .bf16) (G : Vec F S1x8192 .bf16) (k : Fin k1_t1_loop.trips) : List (View.Piece (Elt F) S512x8192 .fp8e4m3) :=
  List.ofFn fun j : Fin 64 =>
    ⟨Rect.unit (s := S512x8192) ![rowAt k, 128 * (Fin.rev j).val] S32x128.size (y_inb k (Fin.rev j)), groupCodes (groupN X G k (Fin.rev j))⟩

theorem scales_fit : Shape.Concatenates ((List.ofFn fun _ : Fin 64 => S32x1)) S32x64 1 :=
  by decide +kernel

/-- The scales trip `k` stores. -/
def sRows (X : Vec F S16x512x512 .bf16) (G : Vec F S1x8192 .bf16) (k : Fin k1_t1_loop.trips) : FVec F S32x64 .f32 :=
  concatenate S32x64 1 (List.ofFn fun g : Fin 64 => (⟨S32x1, groupScale (groupN X G k g)⟩ : (s : Shape) × (s.Idx → F .f32)))
    (by rw [List.map_ofFn]; exact scales_fit)

/-- The one piece of scales trip `k` stores. -/
def sPieces (X : Vec F S16x512x512 .bf16) (G : Vec F S1x8192 .bf16) (k : Fin k1_t1_loop.trips) : List (View.Piece (Elt F) S512x64 .f32) :=
  [⟨Rect.unit (s := S512x64) ![rowAt k, 0] S32x64.size (s_inb k), sRows X G k⟩]

section
variable (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (k1_h1 : k1_cond1 i = 1#1) (X_arg7 : BufTy.Contents (Elt F) arg7.view.ty) (X_arg11 : BufTy.Contents (Elt F) arg11.view.ty) (k : Fin k1_t1_loop.trips)

theorem trip_pieces :
    (trip_k1_t1 (F := F) Variants.none c none i arg2 harg2 arg3 harg3 arg4 harg4 arg5 harg5 arg6 harg6 arg7 harg7 arg8 harg8 arg9 harg9 arg10 harg10 arg11 harg11 k1_h1 X_arg7 X_arg11 k).1
      = yPieces (arg11.view.read (Elt F) X_arg11) (arg7.view.read (Elt F) X_arg7) k := by
  unfold trip_k1_t1
  sl_kernel_rfl

theorem trip_scales :
    (trip_k1_t1 (F := F) Variants.none c none i arg2 harg2 arg3 harg3 arg4 harg4 arg5 harg5 arg6 harg6 arg7 harg7 arg8 harg8 arg9 harg9 arg10 harg10 arg11 harg11 k1_h1 X_arg7 X_arg11 k).2.1
      = sPieces (arg11.view.read (Elt F) X_arg11) (arg7.view.read (Elt F) X_arg7) k := by
  unfold trip_k1_t1
  sl_kernel_rfl

end

end Cert.Kernel.Run
end
-- ==== Proof.BitsBlock.lean ====
module

public import proofs.«01_k».proof.Proof.BitsTrip
public import Idealize.ShloMosaic.Lib.Pointwise.Index
public import Idealize.ShloMosaic.Lib.Pipeline.Value
public import Idealize.ShloMosaic.Lib.Pipeline.ValueKit.Tiles

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

theorem trips_ge : 16 ≤ k1_t1_loop.trips := by decide +kernel

/-- The trip that treats row `a` of the block. -/
def tripOf (a : Fin 512) : Fin k1_t1_loop.trips := ⟨a.val / 32, lt_of_lt_of_le (by omega) trips_ge⟩

/-- The codes of a row block, from the scratch and gamma. -/
def yOut (X : Vec F S16x512x512 .bf16) (G : Vec F S1x8192 .bf16) : Vec F S512x8192 .fp8e4m3 := fun y =>
  groupCodes (groupN X G (tripOf (y 0)) ⟨(y 1).val / 128, by have := (y 1).isLt; change (y 1).val < 8192 at this; omega⟩)
    (ix2 (⟨(y 0).val % 32, by omega⟩ : Fin 32) (⟨(y 1).val % 128, by omega⟩ : Fin 128))

/-- The scales of a row block. -/
def sOut (X : Vec F S16x512x512 .bf16) (G : Vec F S1x8192 .bf16) : Vec F S512x64 .f32 := fun y =>
  groupScale (groupN X G (tripOf (y 0)) (y 1)) (ix2 (⟨(y 0).val % 32, by omega⟩ : Fin 32) (0 : Fin 1))

theorem yOut_of (X : Vec F S16x512x512 .bf16) (G : Vec F S1x8192 .bf16) (y : S512x8192.Idx) (k : Fin k1_t1_loop.trips) (g : Fin 64)
    (x : S32x128.Idx) (h0 : (y 0).val = 32 * k.val + (x 0).val) (h1 : (y 1).val = 128 * g.val + (x 1).val) :
    yOut X G y = groupCodes (groupN X G k g) x := by
  have hx0 : (x 0).val < 32 := (x 0).isLt
  have hx1 : (x 1).val < 128 := (x 1).isLt
  have e1 : tripOf (y 0) = k := Fin.ext (show (y 0).val / 32 = k.val by omega)
  have e2 : ∀ h, (⟨(y 1).val / 128, h⟩ : Fin 64) = g := fun h => Fin.ext (show (y 1).val / 128 = g.val by omega)
  have e3 : ∀ h h', ix2 (⟨(y 0).val % 32, h⟩ : Fin 32) (⟨(y 1).val % 128, h'⟩ : Fin 128) = x := by
    intro h h'
    funext a
    fin_cases a
    · exact Fin.ext (show (y 0).val % 32 = (x 0).val by omega)
    · exact Fin.ext (show (y 1).val % 128 = (x 1).val by omega)
  unfold yOut
  rw [e1, e2, e3]

theorem sOut_of (X : Vec F S16x512x512 .bf16) (G : Vec F S1x8192 .bf16) (y : S512x64.Idx) (k : Fin k1_t1_loop.trips) (g : Fin 64)
    (x : S32x1.Idx) (h0 : (y 0).val = 32 * k.val + (x 0).val) (h1 : (y 1).val = g.val) :
    sOut X G y = groupScale (groupN X G k g) x := by
  have hx0 : (x 0).val < 32 := (x 0).isLt
  have hx1 : (x 1).val < 1 := (x 1).isLt
  have e1 : tripOf (y 0) = k := Fin.ext (show (y 0).val / 32 = k.val by omega)
  have e2 : y 1 = g := Fin.ext h1
  have e3 : ∀ h, ix2 (⟨(y 0).val % 32, h⟩ : Fin 32) (0 : Fin 1) = x := by
    intro h
    funext a
    fin_cases a
    · exact Fin.ext (show (y 0).val % 32 = (x 0).val by omega)
    · exact Fin.ext (show 0 = (x 1).val by omega)
  unfold sOut
  rw [e1, e2, e3]

/-- Every piece trip `k` stores is a piece of the whole block's codes. -/
theorem yPieces_eq (X : Vec F S16x512x512 .bf16) (G : Vec F S1x8192 .bf16) (k : Fin k1_t1_loop.trips) :
    ∀ p ∈ yPieces X G k, ∀ x : p.1.shape.Idx, p.2 x = yOut X G (p.1.emb x) := by
  intro p hp
  obtain ⟨j, rfl⟩ := (List.mem_ofFn).mp hp
  intro x
  refine (yOut_of X G _ k (Fin.rev j) x ?_ ?_).symm
  · show rowAt k + 1 * (x 0).val = _
    have := rowAt_eq k; omega
  · show 128 * (Fin.rev j).val + 1 * (x 1).val = _
    rw [Nat.one_mul]

theorem sPieces_eq (X : Vec F S16x512x512 .bf16) (G : Vec F S1x8192 .bf16) (k : Fin k1_t1_loop.trips) :
    ∀ p ∈ sPieces X G k, ∀ x : p.1.shape.Idx, p.2 x = sOut X G (p.1.emb x) := by
  intro p hp
  obtain rfl := List.mem_singleton.mp hp
  intro x
  show sRows X G k x = _
  unfold sRows
  refine concatenate_ofFn_unit_eq (s₁ := S32x1) (t := S32x64) 1 (fun g : Fin 64 => groupScale (groupN X G k g)) _ x _ rfl rfl ?_
  intro n i hn h0 hb
  refine (sOut_of X G _ k n i ?_ ?_).symm
  · show rowAt k + 1 * (x 0).val = _
    have : (i 0).val = (x 0).val := hb 0 (by decide)
    have := rowAt_eq k; omega
  · show 0 + 1 * (x 1).val = _
    rw [Nat.zero_add, Nat.one_mul]; exact hn

/-- Every element of the block is stored by the trip that treats its row. -/
theorem y_cover (X : Vec F S16x512x512 .bf16) (G : Vec F S1x8192 .bf16) (y : S512x8192.Idx) :
    ∃ p ∈ yPieces X G (tripOf (y 0)), y ∈ p.1.set := by
  have hy1 : (y 1).val < 8192 := (y 1).isLt
  have h1 := rowAt_eq (tripOf (y 0))
  have h2 : (tripOf (y 0)).val = (y 0).val / 32 := rfl
  let g : Fin 64 := ⟨(y 1).val / 128, by omega⟩
  refine ⟨_, (List.mem_ofFn).mpr ⟨Fin.rev g, rfl⟩, ?_⟩
  have hg : (Fin.rev (Fin.rev g)).val = (y 1).val / 128 := by rw [Fin.rev_rev]
  refine (Rect.mem_set_unit (inb := y_inb _ _)).mpr ?_
  intro a
  fin_cases a
  · show rowAt (tripOf (y 0)) ≤ (y 0).val ∧ (y 0).val < rowAt (tripOf (y 0)) + 32; omega
  · show 128 * (Fin.rev (Fin.rev g)).val ≤ (y 1).val ∧ (y 1).val < 128 * (Fin.rev (Fin.rev g)).val + 128; omega

theorem s_cover (X : Vec F S16x512x512 .bf16) (G : Vec F S1x8192 .bf16) (y : S512x64.Idx) :
    ∃ p ∈ sPieces X G (tripOf (y 0)), y ∈ p.1.set := by
  have hy1 : (y 1).val < 64 := (y 1).isLt
  have h1 := rowAt_eq (tripOf (y 0))
  have h2 : (tripOf (y 0)).val = (y 0).val / 32 := rfl
  refine ⟨_, List.mem_singleton.mpr rfl, ?_⟩
  refine (Rect.mem_set_unit (inb := s_inb _)).mpr ?_
  intro a
  fin_cases a
  · show rowAt (tripOf (y 0)) ≤ (y 0).val ∧ (y 0).val < rowAt (tripOf (y 0)) + 32; omega
  · show 0 ≤ (y 1).val ∧ (y 1).val < 0 + 64; omega

section
variable (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (k1_h1 : k1_cond1 i = 1#1) (X_arg7 : BufTy.Contents (Elt F) arg7.view.ty) (X_arg11 : BufTy.Contents (Elt F) arg11.view.ty)

/-- The pieces of the first `n` trips are those of the trips, each once. -/
theorem pb_mem (n : ℕ) (hn : n ≤ k1_t1_loop.trips) :
    (∀ p, p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 n).1 ↔
      ∃ k : Fin k1_t1_loop.trips, k.val < n ∧ p ∈ yPieces (arg11.view.read (Elt F) X_arg11) (arg7.view.read (Elt F) X_arg7) k) ∧
    (∀ p, p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 n).2 ↔
      ∃ k : Fin k1_t1_loop.trips, k.val < n ∧ p ∈ sPieces (arg11.view.read (Elt F) X_arg11) (arg7.view.read (Elt F) X_arg7) k) := by
  induction n with
  | zero =>
    constructor <;> intro p <;> constructor
    · intro h; exact absurd h (List.not_mem_nil)
    · rintro ⟨k, hk, -⟩; omega
    · intro h; exact absurd h (List.not_mem_nil)
    · rintro ⟨k, hk, -⟩; omega
  | succ n ih =>
    obtain ⟨iy, is⟩ := ih (by omega)
    have key := pb_k1_t1_succ (F := F) Variants.none c none i arg2 harg2 arg3 harg3 arg4 harg4 arg5 harg5 arg6 harg6 arg7 harg7 arg8 harg8 arg9 harg9 arg10 harg10 arg11 harg11 k1_h1 X_arg7 X_arg11 ⟨n, by omega⟩
    have ty := trip_pieces (F := F) c i arg2 harg2 arg3 harg3 arg4 harg4 arg5 harg5 arg6 harg6 arg7 harg7 arg8 harg8 arg9 harg9 arg10 harg10 arg11 harg11 k1_h1 X_arg7 X_arg11 ⟨n, by omega⟩
    have ts := trip_scales (F := F) c i arg2 harg2 arg3 harg3 arg4 harg4 arg5 harg5 arg6 harg6 arg7 harg7 arg8 harg8 arg9 harg9 arg10 harg10 arg11 harg11 k1_h1 X_arg7 X_arg11 ⟨n, by omega⟩
    dsimp only at key
    rw [key]
    constructor <;> intro p
    · rw [List.mem_append, iy, ty]
      constructor
      · rintro (h | ⟨k, hk, h⟩)
        · exact ⟨_, Nat.lt_succ_self n, h⟩
        · exact ⟨k, by omega, h⟩
      · rintro ⟨k, hk, h⟩
        rcases Nat.lt_succ_iff_lt_or_eq.mp hk with h' | h'
        · exact .inr ⟨k, h', h⟩
        · rw [show k = ⟨n, hn⟩ from Fin.ext h'] at h
          exact .inl h
    · rw [List.mem_append, is, ts]
      constructor
      · rintro (h | ⟨k, hk, h⟩)
        · exact ⟨_, Nat.lt_succ_self n, h⟩
        · exact ⟨k, by omega, h⟩
      · rintro ⟨k, hk, h⟩
        rcases Nat.lt_succ_iff_lt_or_eq.mp hk with h' | h'
        · exact .inr ⟨k, h', h⟩
        · rw [show k = ⟨n, hn⟩ from Fin.ext h'] at h
          exact .inl h

/-- What the loop leaves in the codes' block, whatever was there. -/
theorem read_y (G9 : BufTy.Contents (Elt F) arg9.view.ty) :
    arg9.view.read (Elt F) (arg9.view.writes (Elt F) G9 (pb_k1_t1 (F := F) Variants.none c none i arg2 harg2 arg3 harg3 arg4 harg4 arg5 harg5 arg6 harg6 arg7 harg7 arg8 harg8 arg9 harg9 arg10 harg10 arg11 harg11 k1_h1 X_arg7 X_arg11 16).1)
      = yOut (arg11.view.read (Elt F) X_arg11) (arg7.view.read (Elt F) X_arg7) := by
  have hm := (pb_mem (F := F) c i arg2 harg2 arg3 harg3 arg4 harg4 arg5 harg5 arg6 harg6 arg7 harg7 arg8 harg8 arg9 harg9 arg10 harg10 arg11 harg11 k1_h1 X_arg7 X_arg11 16 trips_ge).1
  have hc : ∀ y, ∃ p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 16).1, y ∈ p.1.set := by
    intro y
    obtain ⟨p, hp, hy⟩ := y_cover (arg11.view.read (Elt F) X_arg11) (arg7.view.read (Elt F) X_arg7) y
    refine ⟨p, (hm p).mpr ⟨tripOf (y 0), ?_, hp⟩, hy⟩
    show (y 0).val / 32 < 16
    have : (y 0).val < 512 := (y 0).isLt
    omega
  rw [View.read_writes_eq_canon _ _ _ hc]
  funext y
  refine View.canon_apply_of_pieces _ _ ?_ y (hc y)
  intro p hp
  obtain ⟨k, -, hk⟩ := (hm p).mp hp
  exact yPieces_eq _ _ k p hk

/-- What the loop leaves in the scales' block, whatever was there. -/
theorem read_s (G10 : BufTy.Contents (Elt F) arg10.view.ty) :
    arg10.view.read (Elt F) (arg10.view.writes (Elt F) G10 (pb_k1_t1 (F := F) Variants.none c none i arg2 harg2 arg3 harg3 arg4 harg4 arg5 harg5 arg6 harg6 arg7 harg7 arg8 harg8 arg9 harg9 arg10 harg10 arg11 harg11 k1_h1 X_arg7 X_arg11 16).2)
      = sOut (arg11.view.read (Elt F) X_arg11) (arg7.view.read (Elt F) X_arg7) := by
  have hm := (pb_mem (F := F) c i arg2 harg2 arg3 harg3 arg4 harg4 arg5 harg5 arg6 harg6 arg7 harg7 arg8 harg8 arg9 harg9 arg10 harg10 arg11 harg11 k1_h1 X_arg7 X_arg11 16 trips_ge).2
  have hc : ∀ y, ∃ p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 16).2, y ∈ p.1.set := by
    intro y
    obtain ⟨p, hp, hy⟩ := s_cover (arg11.view.read (Elt F) X_arg11) (arg7.view.read (Elt F) X_arg7) y
    refine ⟨p, (hm p).mpr ⟨tripOf (y 0), ?_, hp⟩, hy⟩
    show (y 0).val / 32 < 16
    have : (y 0).val < 512 := (y 0).isLt
    omega
  rw [View.read_writes_eq_canon _ _ _ hc]
  funext y
  refine View.canon_apply_of_pieces _ _ ?_ y (hc y)
  intro p hp
  obtain ⟨k, -, hk⟩ := (hm p).mp hp
  exact sPieces_eq _ _ k p hk

end

end Cert.Kernel.Run
end
-- ==== Proof.BitsRegion1.lean ====
module

public import proofs.«01_k».proof.Proof.BitsBlock
public import Idealize.ShloMosaic.Lib.VecWindow
public import Idealize.ShloMosaic.Lib.WritesUnit
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The scratch with block `j` replaced by `r`. -/
def putSlot (j : ℕ) (xs : Vec F S16x512x512 .bf16) (r : FVec F S512x512 .bf16) : Vec F S16x512x512 .bf16 := fun y =>
  if (y 0).val = j then r (ix2 (y 1 : Fin 512) (y 2 : Fin 512)) else xs y

theorem k1_off1_eq (i : grid1.Coords) : k1_off1 i = ![(i 1).val, 0, 0] := by
  have h : (i 1).val < 16 := (i 1).isLt
  unfold k1_off1
  have e : (Scalar.indexCast (BitVec.ofNat 32 (i 1).val)).toNat = (i 1).val := by
    show (BitVec.ofNat 32 (i 1).val).toNat = _
    rw [BitVec.toNat_ofNat]; omega
  dsimp only
  rw [e]

/-- Writing a product block into its slot of the scratch. -/
theorem read_put (v : View sig .tc .vmem S16x512x512 .bf16) (f : v.ty.Contents (Elt F)) (i : grid1.Coords) (inb)
    (v0 : Vec F S512x11264 .fp8e4m3) (v2 : Vec F S11264x512 .fp8e4m3) (v4 : Vec F S512x1 .f32) (v8 : Vec F S1x512 .f32) (v12 : Vec F S512x512 .bf16) :
    v.read (Elt F) (v.writes (Elt F) f [⟨Rect.unit (s := S16x512x512) (k1_off1 i) S1x512x512.size inb, k1_pay2 v0 v2 v4 v8 v12⟩])
      = putSlot (i 1).val (v.read (Elt F) f) (k1_pay1 v0 v2 v4 v8 v12) := by
  funext y
  have h : (i 1).val < 16 := (i 1).isLt
  unfold putSlot
  by_cases hy : (y 0).val = (i 1).val
  · rw [if_pos hy]
    refine (View.read_writes_cons_unit_of_mem v f inb _ [] y (ix3 (0 : Fin 1) (y 1 : Fin 512) (y 2 : Fin 512) : S1x512x512.Idx) (k1_off1_eq i) ?_).trans ?_
    · intro a
      fin_cases a
      · show (y 0).val = (i 1).val + 0; omega
      · show (y 1).val = 0 + (y 1).val; omega
      · show (y 2).val = 0 + (y 2).val; omega
    · unfold k1_pay2
      refine (shapeCast_addUnit_apply ![512, 512] _ _ _).trans (congrArg (k1_pay1 v0 v2 v4 v8 v12) ?_)
      funext a
      fin_cases a <;> rfl
  · rw [if_neg hy]
    refine View.read_writes_cons_unit_of_not_mem v f inb _ [] y (k1_off1_eq i) 0 ?_
    show (y 0).val < (i 1).val ∨ (i 1).val + 1 ≤ (y 0).val
    omega

section
variable {arg2 : Memref sig .tc .vmem S512x11264 .fp8e4m3} (harg2 : arg2.IsWhole) {arg3 : Memref sig .tc .vmem S512x1 .f32} (harg3 : arg3.IsWhole) {arg4 : Memref sig .tc .vmem S11264x512 .fp8e4m3} (harg4 : arg4.IsWhole) {arg5 : Memref sig .tc .vmem S1x512 .f32} (harg5 : arg5.IsWhole) {arg6 : Memref sig .tc .vmem S512x512 .bf16} (harg6 : arg6.IsWhole)
  (x0 : Vec F S512x11264 .fp8e4m3) (x1 : Vec F S512x1 .f32) (x2 : Vec F S11264x512 .fp8e4m3) (x3 : Vec F S1x512 .f32) (x4 : Vec F S512x512 .bf16)
include harg2 harg3 harg4 harg5 harg6

/-- The product block of what the five input blocks hold. -/
theorem pay_loads (i0 i1 i2 i3 i4) :
    k1_pay1 (arg2.view.readAt (Elt F) (Rect.unit (s := S512x11264) ![0, 0] S512x11264.size i0).toLoadRect (harg2.unread x0))
      (arg4.view.readAt (Elt F) (Rect.unit (s := S11264x512) ![0, 0] S11264x512.size i1).toLoadRect (harg4.unread x2))
      (arg3.view.readAt (Elt F) (Rect.unit (s := S512x1) ![0, 0] S512x1.size i2).toLoadRect (harg3.unread x1))
      (arg5.view.readAt (Elt F) (Rect.unit (s := S1x512) ![0, 0] S1x512.size i3).toLoadRect (harg5.unread x3))
      (arg6.view.readAt (Elt F) (Rect.unit (s := S512x512) ![0, 0] S512x512.size i4).toLoadRect (harg6.unread x4))
      = k1_pay1 x0 x2 x1 x3 x4 := by
  rw [View.readAt_full, View.readAt_full, View.readAt_full, View.readAt_full, View.readAt_full, harg2.read_unread, harg3.read_unread,
    harg4.read_unread, harg5.read_unread, harg6.read_unread]

/-- The scratch after the point's store, from what it and the five input blocks hold. -/
theorem put_loads {arg11 : Memref sig .tc .vmem S16x512x512 .bf16} (harg11 : arg11.IsWhole) (i : grid1.Coords) (xs : Vec F S16x512x512 .bf16)
    (x0 : Vec F S512x11264 .fp8e4m3) (x1 : Vec F S512x1 .f32) (x2 : Vec F S11264x512 .fp8e4m3) (x3 : Vec F S1x512 .f32) (x4 : Vec F S512x512 .bf16) (inb i0 i1 i2 i3 i4) :
    arg11.view.read (Elt F) (arg11.view.writes (Elt F) (harg11.unread xs) [⟨Rect.unit (s := S16x512x512) (k1_off1 i) S1x512x512.size inb,
      k1_pay2 (arg2.view.readAt (Elt F) (Rect.unit (s := S512x11264) ![0, 0] S512x11264.size i0).toLoadRect (harg2.unread x0))
      (arg4.view.readAt (Elt F) (Rect.unit (s := S11264x512) ![0, 0] S11264x512.size i1).toLoadRect (harg4.unread x2))
      (arg3.view.readAt (Elt F) (Rect.unit (s := S512x1) ![0, 0] S512x1.size i2).toLoadRect (harg3.unread x1))
      (arg5.view.readAt (Elt F) (Rect.unit (s := S1x512) ![0, 0] S1x512.size i3).toLoadRect (harg5.unread x3))
      (arg6.view.readAt (Elt F) (Rect.unit (s := S512x512) ![0, 0] S512x512.size i4).toLoadRect (harg6.unread x4))⟩])
      = putSlot (i 1).val xs (k1_pay1 x0 x2 x1 x3 x4) := by
  rw [read_put, harg11.read_unread, pay_loads harg2 harg3 harg4 harg5 harg6]
end

set_option maxHeartbeats 1000000 in
/-- The body at a point that does not end a row block: the product block goes to the result and to its slot of the scratch. -/
theorem sound_kernel1_A (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (hc0 : ¬k1_cond1 i = 1#1)
    (x0 : Vec F S512x11264 .fp8e4m3) (x1 : Vec F S512x1 .f32) (x2 : Vec F S11264x512 .fp8e4m3) (x3 : Vec F S1x512 .f32) (x4 : Vec F S512x512 .bf16) (x5 : Vec F S1x8192 .bf16) (xs : Vec F S16x512x512 .bf16) (xi7 : Vec F S512x8192 .fp8e4m3) (xi8 : Vec F S512x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 x0 x2 x1 x3 x4) ∗ owns (c : Thread nD τ) arg9 fullShare xi7 ∗ owns (c : Thread nD τ) arg10 fullShare xi8 ∗ owns (c : Thread nD τ) arg11 fullShare (putSlot (i 1).val xs (k1_pay1 x0 x2 x1 x3 x4))) -∗ K ⟨⟩))
      ⊢ wp frame (wpE (defs₀ (F := F)) Variants.none c none) E (cc1_oproj_norm_quant i arg2 harg2 arg3 harg3 arg4 harg4 arg5 harg5 arg6 harg6 arg7 harg7 arg8 harg8 arg9 harg9 arg10 harg10 arg11 harg11) K := by
  simp only [cc1_oproj_norm_quant_eq_skeleton]; unfold cc1_oproj_norm_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg9.eq_unread hf7; obtain rfl := harg10.eq_unread hf8
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ []).trans (pay_loads harg2 harg3 harg4 harg5 harg6 x0 x1 x2 x3 x4 _ _ _ _ _)
  isplitl [H7]
  · iexists _; isplitr; · ipureintro; exact harg9.read_unread _
    iexact H7
  isplitl [H8]
  · iexists _; isplitr; · ipureintro; exact harg10.read_unread _
    iexact H8
  iexists _; isplitr; swap; · iexact HS0
  ipureintro
  exact put_loads harg2 harg3 harg4 harg5 harg6 harg11 i xs x0 x1 x2 x3 x4 _ _ _ _ _ _

set_option maxHeartbeats 1000000 in
/-- The body at a point that ends a row block: besides, the codes and the scales of the whole row block. -/
theorem sound_kernel1_B (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (hc0 : k1_cond1 i = 1#1)
    (x0 : Vec F S512x11264 .fp8e4m3) (x1 : Vec F S512x1 .f32) (x2 : Vec F S11264x512 .fp8e4m3) (x3 : Vec F S1x512 .f32) (x4 : Vec F S512x512 .bf16) (x5 : Vec F S1x8192 .bf16) (xs : Vec F S16x512x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 x0 x2 x1 x3 x4) ∗ owns (c : Thread nD τ) arg9 fullShare (yOut (putSlot (i 1).val xs (k1_pay1 x0 x2 x1 x3 x4)) x5) ∗ owns (c : Thread nD τ) arg10 fullShare (sOut (putSlot (i 1).val xs (k1_pay1 x0 x2 x1 x3 x4)) x5) ∗ owns (c : Thread nD τ) arg11 fullShare (putSlot (i 1).val xs (k1_pay1 x0 x2 x1 x3 x4))) -∗ K ⟨⟩))
      ⊢ wp frame (wpE (defs₀ (F := F)) Variants.none c none) E (cc1_oproj_norm_quant i arg2 harg2 arg3 harg3 arg4 harg4 arg5 harg5 arg6 harg6 arg7 harg7 arg8 harg8 arg9 harg9 arg10 harg10 arg11 harg11) K := by
  simp only [cc1_oproj_norm_quant_eq_skeleton]; unfold cc1_oproj_norm_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ []).trans (pay_loads harg2 harg3 harg4 harg5 harg6 x0 x1 x2 x3 x4 _ _ _ _ _)
  isplitl [H7]
  · iexists _; isplitr; swap; · iexact H7
    ipureintro
    refine (read_y (F := F) c i arg2 harg2 arg3 harg3 arg4 harg4 arg5 harg5 arg6 harg6 arg7 harg7 arg8 harg8 arg9 harg9 arg10 harg10 arg11 harg11 hc0 _ _ _).trans ?_
    exact congrArg₂ yOut (put_loads harg2 harg3 harg4 harg5 harg6 harg11 i xs x0 x1 x2 x3 x4 _ _ _ _ _ _) (harg7.read_unread x5)
  isplitl [H8]
  · iexists _; isplitr; swap; · iexact H8
    ipureintro
    refine (read_s (F := F) c i arg2 harg2 arg3 harg3 arg4 harg4 arg5 harg5 arg6 harg6 arg7 harg7 arg8 harg8 arg9 harg9 arg10 harg10 arg11 harg11 hc0 _ _ _).trans ?_
    exact congrArg₂ sOut (put_loads harg2 harg3 harg4 harg5 harg6 harg11 i xs x0 x1 x2 x3 x4 _ _ _ _ _ _) (harg7.read_unread x5)
  iexists _; isplitr; swap; · iexact HS0
  ipureintro
  exact put_loads harg2 harg3 harg4 harg5 harg6 harg11 i xs x0 x1 x2 x3 x4 _ _ _ _ _ _

end Cert.Kernel.Run
end
-- ==== Proof.BitsBody1.lean ====
module

public import proofs.«01_k».proof.Proof.BitsRegion1
public import proofs.«01_k».proof.Proof.Gen.Kernel.Launch
public import proofs.«01_k».proof.Proof.Gen.Kernel.Skeleton
public import proofs.«01_k».proof.Proof.Gen.Kernel.Points
public import Idealize.ShloMosaic.Lib.Pointwise.Index
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 15 (mod 16) — by arithmetic of the point. -/
theorem hcond1_0 : ∀ t : Fin cfg1.N, cond1_0 (grid1.coords t) ↔ t.val % 16 = 15 :=
  (fun t => by
    have ht : t.val < 768 := Nat.lt_of_lt_of_eq t.isLt N_1
    have e0 : (grid1.coords t 0).val = t.val / 16 % 48 := Pipeline.Grid.coords_val t 0 (by decide) rfl
    have e1 : (grid1.coords t 1).val = t.val / 1 % 16 := Pipeline.Grid.coords_val t 1 (by decide) rfl
    simp only [cond1_0, k1_cond1, e0, e1]
    word_cmp
   : ∀ t : Fin grid1.N, cond1_0 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- At the points of case A the printed configuration (`Cfg.idle`) calls output 7 idle: the case stores nothing into it. -/
theorem idleAt1_7_A : ∀ t : Fin cfg1.N, ¬cond1_0 (grid1.coords t) → cfg1.idle 7 (grid1.coords t) = true := by decide +kernel
/-- At the points of case A the pipeline does not write output 7's block back. -/
theorem noFlush1_7_A : ∀ t : Fin cfg1.N, ¬cond1_0 (grid1.coords t) → (cfg1.win 7).flush t = false := by decide +kernel
/-- At the points of case B the printed configuration (`Cfg.idle`) calls output 7 live: the case stores into it. -/
theorem liveAt1_7_B : ∀ t : Fin cfg1.N, cond1_0 (grid1.coords t) → cfg1.idle 7 (grid1.coords t) = false := by decide +kernel
/-- At the points of case A the printed configuration (`Cfg.idle`) calls output 8 idle: the case stores nothing into it. -/
theorem idleAt1_8_A : ∀ t : Fin cfg1.N, ¬cond1_0 (grid1.coords t) → cfg1.idle 8 (grid1.coords t) = true := by decide +kernel
/-- At the points of case A the pipeline does not write output 8's block back. -/
theorem noFlush1_8_A : ∀ t : Fin cfg1.N, ¬cond1_0 (grid1.coords t) → (cfg1.win 8).flush t = false := by decide +kernel
/-- At the points of case B the printed configuration (`Cfg.idle`) calls output 8 live: the case stores into it. -/
theorem liveAt1_8_B : ∀ t : Fin cfg1.N, cond1_0 (grid1.coords t) → cfg1.idle 8 (grid1.coords t) = false := by decide +kernel

/-! ## The kernel body on any staging memrefs: a subtype the run finds -/

/-- One staging buffer of output window 6, through which its contents are stated (`View.read_writes_of_cover`: the
    choice does not matter). -/
abbrev VO1_6 : View sig .tc .vmem S512x512 .bf16 := (Memref.whole cc1_stg6_0 : Memref sig .tc .vmem S512x512 .bf16).view
/-- One staging buffer of output window 7, through which its contents are stated (`View.read_writes_of_cover`: the
    choice does not matter). -/
abbrev VO1_7 : View sig .tc .vmem S512x8192 .fp8e4m3 := (Memref.whole cc1_stg7_0 : Memref sig .tc .vmem S512x8192 .fp8e4m3).view
/-- One staging buffer of output window 8, through which its contents are stated (`View.read_writes_of_cover`: the
    choice does not matter). -/
abbrev VO1_8 : View sig .tc .vmem S512x64 .f32 := (Memref.whole cc1_stg8_0 : Memref sig .tc .vmem S512x64 .f32).view
/-- Each window's current staging memref at point `t`, spelled as the pipeline passes it (`bodyAt1`), and its wholeness. -/
abbrev ms1_0 (t : Fin cfg1.N) : Memref sig .tc .vmem S512x11264 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S11264x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8192 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x8192 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x64 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S16x512x512 .bf16 := Memref.whole cc1_scratch0

/-- A point's second coordinate is its place in its row block. -/
theorem coords1_1 : ∀ t : Fin cfg1.N, ((grid1.coords t) 1).val = t.val % 16 := by decide +kernel

/-- The product block of point `t`, from its input blocks. -/
def blk (c : Dev nD) (t : Fin cfg1.N) : FVec F S512x512 .bf16 :=
  k1_pay1 (iblk1 V c 0 t) (iblk1 V c 2 t) (iblk1 V c 1 t) (iblk1 V c 3 t) (iblk1 V c 4 t)

/-- Before position `n` the scratch holds the product blocks of the points of its row block that are past. -/
def Filled (c : Dev nD) (n : ℕ) (d : Vec F S16x512x512 .bf16) : Prop :=
  ∀ (y : S16x512x512.Idx) (t : Fin cfg1.N), t.val / 16 = n / 16 → t.val < n → (y 0).val = t.val % 16 →
    d y = blk V c t (ix2 (y 1 : Fin 512) (y 2 : Fin 512))

/-- The scratch when the row block of `t` is whole. -/
def scrAt (c : Dev nD) (t : Fin cfg1.N) : Vec F S16x512x512 .bf16 := fun y =>
  blk V c ⟨16 * (t.val / 16) + (y 0).val, by
    have h1 := t.isLt; have h2 : cfg1.N = 768 := N_1; have h3 : (y 0).val < 16 := (y 0).isLt; omega⟩ (ix2 (y 1 : Fin 512) (y 2 : Fin 512))

theorem filled_zero (c : Dev nD) (d : Vec F S16x512x512 .bf16) : Filled V c 0 d := fun _ _ _ h => absurd h (Nat.not_lt_zero _)

theorem filled_succ (c : Dev nD) (t : Fin cfg1.N) (d : Vec F S16x512x512 .bf16) (h : Filled V c t.val d) :
    Filled V c (t.val + 1) (putSlot ((grid1.coords t) 1).val d (blk V c t)) := by
  intro y t' h1 h2 h3
  rw [coords1_1]
  unfold putSlot
  by_cases e : t' = t
  · subst e; rw [if_pos h3]
  · have e' : t'.val ≠ t.val := fun hh => e (Fin.ext hh)
    rw [if_neg (by omega)]
    exact h y t' (by omega) (by omega) h3

theorem filled_last (c : Dev nD) (t : Fin cfg1.N) (h0 : t.val % 16 = 15) (d : Vec F S16x512x512 .bf16) (h : Filled V c t.val d) :
    putSlot ((grid1.coords t) 1).val d (blk V c t) = scrAt V c t := by
  funext y
  have h3 : (y 0).val < 16 := (y 0).isLt
  rw [coords1_1]
  unfold putSlot scrAt
  by_cases e : (y 0).val = t.val % 16
  · rw [if_pos e]
    have : ∀ hh, (⟨16 * (t.val / 16) + (y 0).val, hh⟩ : Fin cfg1.N) = t := fun hh => Fin.ext (by show 16 * (t.val / 16) + (y 0).val = t.val; omega)
    rw [this]
  · rw [if_neg e]
    exact h y ⟨16 * (t.val / 16) + (y 0).val, _⟩ (by show (16 * (t.val / 16) + (y 0).val) / 16 = _; omega) (by show 16 * (t.val / 16) + (y 0).val < _; omega)
      (by show (y 0).val = (16 * (t.val / 16) + (y 0).val) % 16; omega)

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant before position `n`: the other scoped buffers at some contents, the scratch filled as far as the row block has come,
    the generator register at some state. -/
def PhiK (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d ∗ ⌜Filled V c n d⌝)) ∗ (∃ r, prngReg c r))

theorem PhiK_of (c : Dev nD) : (Pipeline.ΦA spec1 c : sProp 𝕄) ⊢ PhiK V c 0 := by
  rw [PhiA1_eq]; unfold PhiK
  iintro ⟨⟨HR0, HR1, HR2, HR3, HR4, HR5, ⟨%d, HS0⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists d
    isplitl [HS0]; · iexact HS0
    ipureintro; exact filled_zero V c d
  iexact Hg

theorem PhiK_to (c : Dev nD) (n : ℕ) : PhiK V c n ⊢ (Pipeline.ΦA spec1 c : sProp 𝕄) := by
  rw [PhiA1_eq]; unfold PhiK
  iintro ⟨⟨HR0, HR1, HR2, HR3, HR4, HR5, ⟨%d, HS0, -⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists d; iexact HS0
  iexact Hg

/-- The proof data of the second launch: each input's block as it stands, the product block, and at the end of a row block
    its codes and scales. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => blk V c t
    | ⟨7, _⟩ => yOut (scrAt V c t) (iblk1 V c 5 t)
    | ⟨8, _⟩ => sOut (scrAt V c t) (iblk1 V c 5 t)
  Φ n := PhiK V c n.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = blk V c t := by dsimp only [dat1]
theorem after1_7 (c : Dev nD) (t : Fin cfg1.N) : (dat1 V c).after 7 t = yOut (scrAt V c t) (iblk1 V c 5 t) := by dsimp only [dat1]
theorem after1_8 (c : Dev nD) (t : Fin cfg1.N) : (dat1 V c).after 8 t = sOut (scrAt V c t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 1600000 in
/-- The body at any point, by whether the point ends a row block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiK V c t.val from rfl, show (dat1 V c).Φ t.succ = PhiK V c (t.val + 1) from rfl]
  unfold PhiK
  have hN : t.val < 768 := lt_of_lt_of_eq t.isLt (show cfg1.N = 768 from N_1)
  by_cases h0 : t.val % 16 = 15
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7_B t ((hcond1_0 t).mpr h0)], after1_7]
    rw [show (dat1 V c).leavesExact 8 t = owns (c : Thread nD τ) (ms1_8 t) fullShare ((dat1 V c).after 8 t) from by
      unfold Dat.leavesExact; rw [liveAt1_8_B t ((hcond1_0 t).mpr h0)], after1_8]
    iintro ⟨⟨⟨HR0, HR1, HR2, HR3, HR4, HR5, ⟨%xs, HS0, %hxs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_B c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HR0 HR1 HR2 HR3 HR4 HR5 HS0 Hg]
    · isplitl [HR0 HR1 HR2 HR3 HR4 HR5 HS0]
      · isplitl [HR0]; · iexact HR0
        isplitl [HR1]; · iexact HR1
        isplitl [HR2]; · iexact HR2
        isplitl [HR3]; · iexact HR3
        isplitl [HR4]; · iexact HR4
        isplitl [HR5]; · iexact HR5
        iexists _
        isplitl [HS0]; · iexact HS0
        ipureintro; exact filled_succ V c t xs hxs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hl := filled_last V c t h0 xs hxs
    unfold blk at hl
    isplitl [H7]
    · rw [← hl]; iexact H7
    rw [← hl]; iexact H8
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [Dat.leavesExact_idle (dat1 V c) 7 t (idleAt1_7_A t (fun h => h0 ((hcond1_0 t).mp h))) (noFlush1_7_A t (fun h => h0 ((hcond1_0 t).mp h)))]
    rw [Dat.leavesExact_idle (dat1 V c) 8 t (idleAt1_8_A t (fun h => h0 ((hcond1_0 t).mp h))) (noFlush1_8_A t (fun h => h0 ((hcond1_0 t).mp h)))]
    iintro ⟨⟨⟨HR0, HR1, HR2, HR3, HR4, HR5, ⟨%xs, HS0, %hxs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) xs _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HR0 HR1 HR2 HR3 HR4 HR5 HS0 Hg]
    · isplitl [HR0 HR1 HR2 HR3 HR4 HR5 HS0]
      · isplitl [HR0]; · iexact HR0
        isplitl [HR1]; · iexact HR1
        isplitl [HR2]; · iexact HR2
        isplitl [HR3]; · iexact HR3
        isplitl [HR4]; · iexact HR4
        isplitl [HR5]; · iexact HR5
        iexists _
        isplitl [HS0]; · iexact HS0
        ipureintro; exact filled_succ V c t xs hxs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Run
end
-- ==== Proof.BitsRun.lean ====
module

public import proofs.«01_k».proof.Proof.BitsRegion0
public import proofs.«01_k».proof.Proof.BitsBody1
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_v10]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiK (V3 m ρ) c 0 from rfl]
    refine BIBase.Entails.trans ?_ (PhiK_of (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiK (V3 m ρ) c (Fin.last (Pipeline.pin (pcfgs (F := F)) adm 1).N).val from rfl]
    refine BIBase.Entails.trans (PhiK_to (V3 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every execution ends with every array at the contents of the last boundary and
    every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run m ρ)

end Cert.Kernel.Run
end
-- ==== Proof.Trip.lean ====
module

public import proofs.«01_k».proof.Proof.Gen.KernelIdeal.Loops
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- One step of the search for the exponent word: take the bit `b` if the float of the extended word
    still does not exceed `a`. -/
def stepBits {S : Shape} (a : FVec F S .f32) (e : IVec S 32) (b : BitVec 32) : IVec S 32 :=
  select (cmpf .ole (bitcastToFloat .f32 (addi e (broadcast S b))) a) (addi e (broadcast S b)) e

/-- The exponent word of the power of two not above `a`, bit by bit from the top. -/
def searchBits {S : Shape} (a : FVec F S .f32) : IVec S 32 :=
  stepBits a (stepBits a (stepBits a (stepBits a (stepBits a (stepBits a (stepBits a (stepBits a
    (broadcast S 0#32) 1073741824#32) 536870912#32) 268435456#32) 134217728#32) 67108864#32)
    33554432#32) 16777216#32) 8388608#32

/-- The exponent word with the top of the range sent to the infinite exponent. -/
def expBits {S : Shape} (a : FVec F S .f32) : IVec S 32 :=
  select (cmpf .oge a (broadcast S (Scalar.ofBits .f32 0x7E800000#32))) (broadcast S 2139095040#32) (searchBits a)

/-- The word of the scale: one step above the exponent, and the word of 1 at the two ends. -/
def scaleBits {S : Shape} (a : FVec F S .f32) : IVec S 32 :=
  select (ori (cmpi .eq (expBits a) (broadcast S 0#32)) (cmpi .eq (expBits a) (broadcast S 2139095040#32)))
    (broadcast S 1065353216#32) (addi (expBits a) (broadcast S 8388608#32))

/-- The scale a group's scaled maximum `a` calls for. -/
def scaleOf {S : Shape} (a : FVec F S .f32) : FVec F S .f32 := bitcastToFloat .f32 (scaleBits a)

/-- The reciprocal of the scale. -/
def invScaleOf {S : Shape} (a : FVec F S .f32) : FVec F S .f32 :=
  bitcastToFloat .f32 (subi (broadcast S 2130706432#32) (scaleBits a))

/-- A group's largest absolute value over 448. -/
def groupAmax (n : FVec F S32x128 .f32) : FVec F S32x1 .f32 :=
  mulf (shapeCast S32x1 (multiReduction .maximumf [1] S32 (absf n) 0xFF800000#32 reduces_S32x128_S32 (.inl rfl) rfl) shapeCasts_S32_S32x1)
    (broadcast S32x1 (Scalar.ofBits .f32 0x3B124925#32))

/-- A group's fp8 codes. -/
def groupCodes (n : FVec F S32x128 .f32) : FVec F S32x128 .fp8e4m3 :=
  truncf .fp8e4m3
    (minimumf (broadcast S32x128 (Scalar.ofBits .f32 0x43E00000#32))
      (maximumf (broadcast S32x128 (Scalar.ofBits .f32 0xC3E00000#32))
        (mulf n (broadcastTo S32x128 (invScaleOf (groupAmax n)) broadcasts_S32x1_S32x128)))) bitsLt_fp8e4m3_f32

/-- A group's scales. -/
def groupScale (n : FVec F S32x128 .f32) : FVec F S32x1 .f32 := scaleOf (groupAmax n)

/-- The four 128-column groups of a 512-column block. -/
def groupOf (n : FVec F S32x512 .f32) : Fin 4 → FVec F S32x128 .f32
  | 0 => extractStridedSlice S32x128 ![0, 0] n slices_S32x512_o0_0_S32x128
  | 1 => extractStridedSlice S32x128 ![0, 128] n slices_S32x512_o0_128_S32x128
  | 2 => extractStridedSlice S32x128 ![0, 256] n slices_S32x512_o0_256_S32x128
  | 3 => extractStridedSlice S32x128 ![0, 384] n slices_S32x512_o0_384_S32x128

/-- One block's row sums of squares. -/
def blockSq (v : Vec F S1x32x512 .bf16) : FVec F S32x1 .f32 :=
  shapeCast S32x1 (multiReduction .add [1] S32
    (mulf (extf .f32 (shapeCast S32x512 v shapeCasts_S1x32x512_S32x512) bitsLt_bf16_f32)
      (extf .f32 (shapeCast S32x512 v shapeCasts_S1x32x512_S32x512) bitsLt_bf16_f32))
    0x00000000#32 reduces_S32x512_S32 (.inl rfl) rfl) shapeCasts_S32_S32x1

/-- The running row sums of squares over the first `n` blocks. -/
def sumSq (v : Fin 16 → Vec F S1x32x512 .bf16) : (n : ℕ) → n ≤ 16 → FVec F S32x1 .f32
  | 0, _ => broadcast S32x1 (Scalar.ofBits .f32 0x00000000#32)
  | n + 1, h => addf (sumSq v n (Nat.le_of_succ_le h)) (blockSq (v ⟨n, h⟩))

/-- The reciprocal root mean square of each row. -/
def invRms (ss : FVec F S32x1 .f32) : FVec F S32x1 .f32 :=
  rsqrt (addf (mulf ss (broadcast S32x1 (Scalar.ofBits .f32 0x39000000#32))) (broadcast S32x1 (Scalar.ofBits .f32 0x358637BD#32)))

/-- A normalised block. -/
def normed (ss : FVec F S32x1 .f32) (v : Vec F S1x32x512 .bf16) (g : Vec F S1x512 .bf16) : FVec F S32x512 .f32 :=
  mulf (mulf (extf .f32 (shapeCast S32x512 v shapeCasts_S1x32x512_S32x512) bitsLt_bf16_f32)
      (broadcastTo S32x512 (invRms ss) broadcasts_S32x1_S32x512))
    (broadcastTo S32x512 (extf .f32 (shapeCast S1x512 g shapeCasts_S1x512_S1x512) bitsLt_bf16_f32) broadcasts_S1x512_S32x512)

/-- The first row trip `k` treats, as the kernel's words give it. -/
def rowAt (k : Fin k1_t1_loop.trips) : ℕ := k1_off2 k 1

theorem rowAt_eq : ∀ k : Fin k1_t1_loop.trips, rowAt k = 32 * k.val := by decide +kernel

theorem trips_le : k1_t1_loop.trips ≤ 16 := by decide +kernel

theorem slot_inb (k : Fin k1_t1_loop.trips) (t : Fin 16) :
    ∀ a, (![t.val, rowAt k, 0] : Fin 3 → ℕ) a + S1x32x512.size a ≤ S16x512x512.size a := by
  have h1 := rowAt_eq k
  have h2 := lt_of_lt_of_le k.isLt trips_le
  intro a
  fin_cases a
  · show t.val + 1 ≤ 16; omega
  · show rowAt k + 32 ≤ 512; omega
  · show 0 + 512 ≤ 512; omega

theorem gam_inb (t : Fin 16) :
    ∀ a, (![0, 512 * t.val] : Fin 2 → ℕ) a + S1x512.size a ≤ S1x8192.size a := by
  intro a
  fin_cases a
  · show 0 + 1 ≤ 1; omega
  · show 512 * t.val + 512 ≤ 8192; omega

theorem y_inb (k : Fin k1_t1_loop.trips) (g : Fin 64) :
    ∀ a, (![rowAt k, 128 * g.val] : Fin 2 → ℕ) a + S32x128.size a ≤ S512x8192.size a := by
  have h1 := rowAt_eq k
  have h2 := lt_of_lt_of_le k.isLt trips_le
  intro a
  fin_cases a
  · show rowAt k + 32 ≤ 512; omega
  · show 128 * g.val + 128 ≤ 8192; omega

theorem s_inb (k : Fin k1_t1_loop.trips) :
    ∀ a, (![rowAt k, 0] : Fin 2 → ℕ) a + S32x64.size a ≤ S512x64.size a := by
  have h1 := rowAt_eq k
  have h2 := lt_of_lt_of_le k.isLt trips_le
  intro a
  fin_cases a
  · show rowAt k + 32 ≤ 512; omega
  · show 0 + 64 ≤ 64; omega

/-- The 32 rows trip `k` treats of block `t` of the scratch. -/
def slot (X : Vec F S16x512x512 .bf16) (k : Fin k1_t1_loop.trips) (t : Fin 16) : Vec F S1x32x512 .bf16 :=
  View.ld X (Rect.unit (s := S16x512x512) ![t.val, rowAt k, 0] S1x32x512.size (slot_inb k t))

/-- The part of gamma that belongs to block `t`. -/
def gam (G : Vec F S1x8192 .bf16) (t : Fin 16) : Vec F S1x512 .bf16 :=
  View.ld G (Rect.unit (s := S1x8192) ![0, 512 * t.val] S1x512.size (gam_inb t))

/-- The normalised values of group `g` in trip `k`. -/
def groupN (X : Vec F S16x512x512 .bf16) (G : Vec F S1x8192 .bf16) (k : Fin k1_t1_loop.trips) (g : Fin 64) : FVec F S32x128 .f32 :=
  groupOf (normed (sumSq (slot X k) 16 (Nat.le_refl 16)) (slot X k ⟨g.val / 4, by omega⟩) (gam G ⟨g.val / 4, by omega⟩)) ⟨g.val % 4, by omega⟩

/-- The codes trip `k` stores, group by group, the last one first. -/
def yPieces (X : Vec F S16x512x512 .bf16) (G : Vec F S1x8192 .bf16) (k : Fin k1_t1_loop.trips) : List (View.Piece (Elt F) S512x8192 .fp8e4m3) :=
  List.ofFn fun j : Fin 64 =>
    ⟨Rect.unit (s := S512x8192) ![rowAt k, 128 * (Fin.rev j).val] S32x128.size (y_inb k (Fin.rev j)), groupCodes (groupN X G k (Fin.rev j))⟩

theorem scales_fit : Shape.Concatenates ((List.ofFn fun _ : Fin 64 => S32x1)) S32x64 1 :=
  by decide +kernel

/-- The scales trip `k` stores. -/
def sRows (X : Vec F S16x512x512 .bf16) (G : Vec F S1x8192 .bf16) (k : Fin k1_t1_loop.trips) : FVec F S32x64 .f32 :=
  concatenate S32x64 1 (List.ofFn fun g : Fin 64 => (⟨S32x1, groupScale (groupN X G k g)⟩ : (s : Shape) × (s.Idx → F .f32)))
    (by rw [List.map_ofFn]; exact scales_fit)

/-- The one piece of scales trip `k` stores. -/
def sPieces (X : Vec F S16x512x512 .bf16) (G : Vec F S1x8192 .bf16) (k : Fin k1_t1_loop.trips) : List (View.Piece (Elt F) S512x64 .f32) :=
  [⟨Rect.unit (s := S512x64) ![rowAt k, 0] S32x64.size (s_inb k), sRows X G k⟩]

section
variable (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (k1_h1 : k1_cond1 i = 1#1) (X_arg7 : BufTy.Contents (Elt F) arg7.view.ty) (X_arg11 : BufTy.Contents (Elt F) arg11.view.ty) (k : Fin k1_t1_loop.trips)

theorem trip_pieces :
    (trip_k1_t1 (F := F) Variants.none c none i arg2 harg2 arg3 harg3 arg4 harg4 arg5 harg5 arg6 harg6 arg7 harg7 arg8 harg8 arg9 harg9 arg10 harg10 arg11 harg11 k1_h1 X_arg7 X_arg11 k).1
      = yPieces (arg11.view.read (Elt F) X_arg11) (arg7.view.read (Elt F) X_arg7) k := by
  unfold trip_k1_t1
  sl_kernel_rfl

theorem trip_scales :
    (trip_k1_t1 (F := F) Variants.none c none i arg2 harg2 arg3 harg3 arg4 harg4 arg5 harg5 arg6 harg6 arg7 harg7 arg8 harg8 arg9 harg9 arg10 harg10 arg11 harg11 k1_h1 X_arg7 X_arg11 k).2.1
      = sPieces (arg11.view.read (Elt F) X_arg11) (arg7.view.read (Elt F) X_arg7) k := by
  unfold trip_k1_t1
  sl_kernel_rfl

end

end Cert.KernelIdeal.Run
end
-- ==== Proof.Scale.lean ====
module

public import proofs.«01_k».proof.Proof.Trip
public import Idealize.ShloMosaic.PureOps.Ideal

@[expose] public section

set_option maxRecDepth 16384

noncomputable section

namespace Cert.KernelIdeal.Run

open Idealize.ShloMosaic

/-! # The power-of-two scale, as an extended real

The kernel finds the exponent field of a scale bit by bit; over the extended reals it is the field of the largest power of two not above
the scaled maximum, so the scale is two to the floor of the logarithm plus one. -/

/-- The word whose exponent field is `n` and whose other bits are zero. -/
def word (n : ℕ) : BitVec 32 := BitVec.ofNat 32 (8388608 * n)

/-- The number that word stands for. -/
def valAt (n : ℕ) : EReal := Ideal.ofBits .f32 (word n)

/-- Between the two ends of the range it is a power of two. -/
theorem valAt_mid : ∀ n : ℕ, 1 ≤ n → n ≤ 254 → valAt n = (((2 : ℝ) ^ ((n : ℤ) - 127) : ℝ) : EReal) := by
  intro n h1 h2
  have hx : ((word n).extractLsb' 23 8).toNat = n := by
    unfold word
    simp only [BitVec.extractLsb'_toNat, BitVec.toNat_ofNat]
    rw [Nat.shiftRight_eq_div_pow]; omega
  have hf : ((word n).extractLsb' 0 23).toNat = 0 := by
    unfold word
    simp only [BitVec.extractLsb'_toNat, BitVec.toNat_ofNat]
    rw [Nat.shiftRight_eq_div_pow]; omega
  have hn : ((word n).extractLsb' 31 1) = 0#1 := by
    apply BitVec.eq_of_toNat_eq
    unfold word
    simp only [BitVec.extractLsb'_toNat, BitVec.toNat_ofNat]
    rw [Nat.shiftRight_eq_div_pow]; omega
  unfold valAt
  show Ideal.ieee 8 23 (word n) = _
  unfold Ideal.ieee
  simp only [hx, hf, hn]
  rw [if_neg (by omega), if_neg (by omega)]
  refine congrArg (fun r : ℝ => (r : EReal)) ?_
  have : ((n : ℤ) - (2 ^ (8 - 1) - 1) - (23 : ℕ)) = ((n : ℤ) - 127) + (-23) := by norm_num; ring
  rw [this, zpow_add₀ (by norm_num)]
  have h23 : (2 : ℝ) ^ (-23 : ℤ) = 1 / 8388608 := by norm_num
  rw [h23, if_neg (by decide)]
  push_cast
  ring

theorem valAt_zero : valAt 0 = 0 := by
  unfold valAt word
  simp [Ideal.ofBits, Ideal.ieee]

theorem valAt_top : valAt 255 = ⊤ := by
  unfold valAt word
  simp [Ideal.ofBits, Ideal.ieee]

theorem valAt_mono (n k : ℕ) (h : n ≤ k) (hk : k ≤ 255) : valAt n ≤ valAt k := by
  by_cases hk' : k = 255
  · rw [hk', valAt_top]; exact le_top
  by_cases hn : n = 0
  · subst hn
    rw [valAt_zero]
    by_cases hk0 : k = 0
    · subst hk0; rw [valAt_zero]
    · rw [valAt_mid k (by omega) (by omega)]
      exact EReal.coe_nonneg.mpr (zpow_nonneg (by norm_num : (0 : ℝ) ≤ 2) _)
  rw [valAt_mid n (by omega) (by omega), valAt_mid k (by omega) (by omega)]
  exact EReal.coe_le_coe_iff.mpr (zpow_le_zpow_right₀ (by norm_num : (1 : ℝ) ≤ 2) (by omega))

/-- One step of the search on a single number. -/
def stepAt (x : EReal) (n b : ℕ) : ℕ := if valAt (n + b) ≤ x then n + b else n

/-- The exponent field found for a single number. -/
def searchAt (x : EReal) : ℕ :=
  stepAt x (stepAt x (stepAt x (stepAt x (stepAt x (stepAt x (stepAt x (stepAt x 0 128) 64) 32) 16) 8) 4) 2) 1

/-- What the search keeps: the field so far is zero or its number is not above `x`, and every field a full width further is above. -/
def Bracket (x : EReal) (n w : ℕ) : Prop :=
  (n = 0 ∨ valAt n ≤ x) ∧ n + w ≤ 256 ∧ ∀ k, n + w ≤ k → k ≤ 255 → ¬ valAt k ≤ x

theorem bracket_step (x : EReal) (n w : ℕ) (hw : 0 < w) (h : Bracket x n (2 * w)) : Bracket x (stepAt x n w) w := by
  obtain ⟨h1, h2, h3⟩ := h
  unfold stepAt
  by_cases hv : valAt (n + w) ≤ x
  · rw [if_pos hv]
    exact ⟨Or.inr hv, by omega, fun k hk => h3 k (by omega)⟩
  · rw [if_neg hv]
    exact ⟨h1, by omega, fun k hk hk' hle => hv ((valAt_mono _ _ hk hk').trans hle)⟩

theorem bracket_search (x : EReal) : Bracket x (searchAt x) 1 := by
  have h0 : Bracket x 0 256 := ⟨Or.inl rfl, by omega, fun k hk hk' => by omega⟩
  exact bracket_step x _ 1 (by omega) (bracket_step x _ 2 (by omega) (bracket_step x _ 4 (by omega) (bracket_step x _ 8 (by omega)
    (bracket_step x _ 16 (by omega) (bracket_step x _ 32 (by omega) (bracket_step x _ 64 (by omega) (bracket_step x _ 128 (by omega) h0)))))))

/-- The exponent of the scale for a scaled maximum `x`: one above the floor of its logarithm, and zero outside the range. -/
def expo (x : EReal) : EReal :=
  if x < valAt 1 ∨ valAt 253 ≤ x then 0
  else Ideal.liftRound Int.floor (Ideal.div (Ideal.log x) ((Real.log 2 : ℝ) : EReal)) + 1

/-- The exponent field of the scale. -/
def fieldAt (x : EReal) : ℕ := if x < valAt 1 ∨ valAt 253 ≤ x then 127 else searchAt x + 1

theorem expo_field (x : EReal) : 1 ≤ fieldAt x ∧ fieldAt x ≤ 253 ∧ expo x = (((fieldAt x : ℝ) - 127 : ℝ) : EReal) := by
  unfold fieldAt expo
  by_cases h : x < valAt 1 ∨ valAt 253 ≤ x
  · rw [if_pos h, if_pos h]; norm_num
  rw [if_neg h, if_neg h]
  push Not at h
  obtain ⟨hlo, hhi⟩ := h
  obtain ⟨b1, b2, b3⟩ := bracket_search x
  generalize searchAt x = n at b1 b2 b3 ⊢
  have hn1 : 1 ≤ n := by
    by_contra hc
    exact b3 1 (by omega) (by omega) hlo
  have hle : valAt n ≤ x := b1.resolve_left (by omega)
  have hn2 : n ≤ 252 := by
    by_contra hc
    exact absurd ((valAt_mono 253 n (by omega) (by omega)).trans hle) (not_le.mpr hhi)
  refine ⟨by omega, by omega, ?_⟩
  have hlt : x < valAt (n + 1) := not_le.mp (b3 (n + 1) le_rfl (by omega))
  rw [valAt_mid n hn1 (by omega)] at hle
  rw [valAt_mid (n + 1) (by omega) (by omega)] at hlt
  have hxt : x ≠ ⊤ := ne_top_of_lt hlt
  have hxb : x ≠ ⊥ := fun hb => by rw [hb] at hle; exact absurd (le_bot_iff.mp hle) (EReal.coe_ne_bot _)
  lift x to ℝ using ⟨hxt, hxb⟩
  have hle' : (2 : ℝ) ^ ((n : ℤ) - 127) ≤ x := by exact_mod_cast hle
  have hlt' : x < (2 : ℝ) ^ (((n + 1 : ℕ) : ℤ) - 127) := by exact_mod_cast hlt
  have hpos : 0 < x := lt_of_lt_of_le (zpow_pos (by norm_num) _) hle'
  have hl2 : 0 < Real.log 2 := Real.log_pos (by norm_num)
  have hfl : ⌊Real.log x / Real.log 2⌋ = (n : ℤ) - 127 := by
    rw [Int.floor_eq_iff]
    have e1 := Real.log_le_log (zpow_pos (by norm_num) _) hle'
    have e2 := Real.log_lt_log hpos hlt'
    rw [Real.log_zpow] at e1 e2
    constructor
    · rw [le_div_iff₀ hl2]; exact e1
    · rw [div_lt_iff₀ hl2]; refine lt_of_lt_of_eq e2 ?_; push_cast; ring
  rw [Ideal.log_coe, if_neg (not_le.mpr hpos)]
  unfold Ideal.div
  rw [if_neg (by exact_mod_cast hl2.ne')]
  rw [← EReal.coe_inv, ← EReal.coe_mul, ← div_eq_mul_inv, Ideal.liftRound_coe, hfl]
  rw [← EReal.coe_one, ← EReal.coe_add]
  congr 1
  push_cast; ring

theorem exp2_expo (x : EReal) : Ideal.exp2 (expo x) = valAt (fieldAt x) := by
  obtain ⟨h1, h2, h3⟩ := expo_field x
  rw [h3, Ideal.exp2_coe, valAt_mid _ h1 (by omega)]
  congr 1
  show (2 : ℝ) ^ ((fieldAt x : ℝ) - 127) = _
  rw [← Real.rpow_intCast]; push_cast; rfl

theorem exp2_neg_expo (x : EReal) : Ideal.exp2 (0 - expo x) = valAt (254 - fieldAt x) := by
  obtain ⟨h1, h2, h3⟩ := expo_field x
  rw [h3, ← EReal.coe_zero, ← EReal.coe_sub, Ideal.exp2_coe, valAt_mid _ (by omega) (by omega)]
  congr 1
  show (2 : ℝ) ^ (0 - ((fieldAt x : ℝ) - 127)) = _
  rw [← Real.rpow_intCast, Nat.cast_sub (by omega)]; push_cast; congr 1; ring

/-! ## The kernel's words -/

theorem word_add (n k : ℕ) : word n + word k = word (n + k) := by
  unfold word; rw [← BitVec.ofNat_add, Nat.mul_add]

theorem select_cmp (p : Prop) [Decidable p] (S : Type) (u v : S) : Scalar.select (BitVec.ofBool (decide p)) u v = if p then u else v := by
  unfold Scalar.select
  by_cases h : p <;> simp [h]

theorem stepBits_at {S : Shape} (a : FVec Ideal S .f32) (e : IVec S 32) (n k : ℕ) (i : S.Idx) (h : e i = word n) :
    stepBits a e (word k) i = word (stepAt (a i) n k) := by
  show Scalar.select (BitVec.ofBool (decide ((Ideal.ofBits .f32 (e i + word k) : EReal) ≤ a i))) (e i + word k) (e i) = _
  rw [select_cmp, h, word_add]
  unfold stepAt valAt
  split <;> rfl

theorem searchBits_at {S : Shape} (a : FVec Ideal S .f32) (i : S.Idx) : searchBits a i = word (searchAt (a i)) := by
  unfold searchBits searchAt
  rw [show (1073741824#32 : BitVec 32) = word 128 from by decide, show (536870912#32 : BitVec 32) = word 64 from by decide,
    show (268435456#32 : BitVec 32) = word 32 from by decide, show (134217728#32 : BitVec 32) = word 16 from by decide,
    show (67108864#32 : BitVec 32) = word 8 from by decide, show (33554432#32 : BitVec 32) = word 4 from by decide,
    show (16777216#32 : BitVec 32) = word 2 from by decide, show (8388608#32 : BitVec 32) = word 1 from by decide,
    show (0#32 : BitVec 32) = word 0 from by decide]
  repeat' apply stepBits_at
  rfl

theorem word_inj (n k : ℕ) (hn : n < 512) (hk : k < 512) (h : word n = word k) : n = k := by
  have := congrArg BitVec.toNat h
  unfold word at this
  simp only [BitVec.toNat_ofNat] at this
  omega

theorem expBits_at {S : Shape} (a : FVec Ideal S .f32) (i : S.Idx) :
    expBits a i = word (if valAt 253 ≤ a i then 255 else searchAt (a i)) := by
  unfold expBits
  rw [show (2139095040#32 : BitVec 32) = word 255 from by decide, show (0x7E800000#32 : BitVec 32) = word 253 from by decide]
  show Scalar.select (BitVec.ofBool (decide (valAt 253 ≤ a i))) (word 255) (searchBits a i) = _
  rw [select_cmp, searchBits_at]; split <;> rfl

theorem select_or (u v w z : BitVec 32) (α : Type) (x y : α) :
    Scalar.select (IntOp.ori (IntOp.cmpi .eq u v) (IntOp.cmpi .eq w z)) x y = if u = v ∨ w = z then x else y := by
  unfold Scalar.select IntOp.ori IntOp.cmpi
  show (if BitVec.ofBool (u == v) ||| BitVec.ofBool (w == z) = 1 then x else y) = _
  by_cases h1 : u = v
  · by_cases h2 : w = z
    · rw [if_pos (Or.inl h1), beq_iff_eq.mpr h1, beq_iff_eq.mpr h2]; rfl
    · rw [if_pos (Or.inl h1), beq_iff_eq.mpr h1, beq_eq_false_iff_ne.mpr h2]; rfl
  · by_cases h2 : w = z
    · rw [if_pos (Or.inr h2), beq_eq_false_iff_ne.mpr h1, beq_iff_eq.mpr h2]; rfl
    · rw [if_neg (show ¬(u = v ∨ w = z) from fun h => h.elim h1 h2), beq_eq_false_iff_ne.mpr h1, beq_eq_false_iff_ne.mpr h2]; rfl

theorem scaleBits_at {S : Shape} (a : FVec Ideal S .f32) (i : S.Idx) : scaleBits a i = word (fieldAt (a i)) := by
  obtain ⟨b1, b2, b3⟩ := bracket_search (a i)
  unfold scaleBits
  rw [show (2139095040#32 : BitVec 32) = word 255 from by decide, show (0#32 : BitVec 32) = word 0 from by decide,
    show (1065353216#32 : BitVec 32) = word 127 from by decide, show (8388608#32 : BitVec 32) = word 1 from by decide]
  show Scalar.select (IntOp.ori (IntOp.cmpi .eq (expBits a i) (word 0)) (IntOp.cmpi .eq (expBits a i) (word 255))) (word 127) (expBits a i + word 1) = _
  rw [select_or, expBits_at, word_add]
  unfold fieldAt
  by_cases h1 : valAt 253 ≤ a i
  · rw [if_pos h1, if_pos (Or.inr rfl), if_pos (Or.inr h1)]
  rw [if_neg h1]
  have hn : searchAt (a i) ≤ 252 := by
    by_contra hc
    exact h1 ((valAt_mono 253 _ (by omega) (by omega)).trans (b1.resolve_left (by omega)))
  by_cases h2 : a i < valAt 1
  · have h0 : searchAt (a i) = 0 := by
      by_contra hc
      exact absurd ((valAt_mono 1 _ (by omega) (by omega)).trans (b1.resolve_left hc)) (not_le.mpr h2)
    rw [h0, if_pos (Or.inl rfl), if_pos (Or.inl h2)]
  have h0 : searchAt (a i) ≠ 0 := fun h0 => b3 1 (by omega) (by omega) (not_lt.mp h2)
  rw [if_neg, if_neg]
  · rintro (h | h)
    · exact h2 h
    · exact h1 h
  · rintro (h | h)
    · exact h0 (word_inj _ _ (by omega) (by omega) h)
    · have := word_inj _ _ (by omega) (by omega) h; omega

/-- The kernel's scale is two to the exponent. -/
theorem scaleOf_at {S : Shape} (a : FVec Ideal S .f32) (i : S.Idx) : scaleOf a i = Ideal.exp2 (expo (a i)) := by
  rw [exp2_expo]
  show Ideal.ofBits .f32 (scaleBits a i) = _
  rw [scaleBits_at]; rfl

theorem word_sub (k : ℕ) (h : k ≤ 254) : word 254 - word k = word (254 - k) := by
  unfold word
  apply BitVec.eq_of_toNat_eq
  rw [BitVec.toNat_sub, BitVec.toNat_ofNat, BitVec.toNat_ofNat, BitVec.toNat_ofNat]
  omega

/-- Its reciprocal is two to the opposite. -/
theorem invScaleOf_at {S : Shape} (a : FVec Ideal S .f32) (i : S.Idx) : invScaleOf a i = Ideal.exp2 (0 - expo (a i)) := by
  rw [exp2_neg_expo]
  show Ideal.ofBits .f32 (2130706432#32 - scaleBits a i) = _
  rw [scaleBits_at]
  obtain ⟨h1, h2, -⟩ := expo_field (a i)
  unfold valAt
  refine congrArg (Ideal.ofBits .f32) ?_
  rw [show (2130706432#32 : BitVec 32) = word 254 from by decide]
  exact word_sub _ (by omega)

end Cert.KernelIdeal.Run
end
-- ==== Proof.Spec.lean ====
module

public import proofs.«01_k».proof.Proof.Scale
public import Idealize.ShloMosaic.Lib.Pointwise

@[expose] public section

set_option maxRecDepth 16384

noncomputable section

namespace Cert.Spec

open Idealize.ShloMosaic Idealize.ShloMosaic.TcCoe
open Cert.KernelIdeal.Run (expo valAt_mid)

/-! ## What is computed, in the extended reals -/

/-- The largest absolute value of a group, over 448. -/
def amax {n : ℕ} (f : Fin n → EReal) : EReal :=
  (Finset.univ.fold max (Ideal.ofBits .f32 0xFF800000#32) fun k => FloatOps.absf (F := Ideal) (φ := .f32) (f k))
    * Ideal.ofBits .f32 0x3B124925#32

/-- A group's scale. -/
def scale {n : ℕ} (f : Fin n → EReal) : EReal := Ideal.exp2 (expo (amax f))

/-- A group's codes: the values over the scale, clipped to what the format holds. -/
def code {n : ℕ} (f : Fin n → EReal) (k : Fin n) : EReal :=
  min (Ideal.ofBits .f32 0x43E00000#32) (max (Ideal.ofBits .f32 0xC3E00000#32) (f k * Ideal.exp2 (0 - expo (amax f))))

/-- One element of the residual: the product of the codes with a column, scaled back, and the old residual added. -/
def proj {d : ℕ} (X W : Fin d → EReal) (ws res : EReal) : EReal := (∑ k, code X k * W k) * scale X * ws + res

/-- The reciprocal root mean square of a row. -/
def rms (R : Fin 8192 → EReal) : EReal :=
  Ideal.rsqrt ((∑ k, R k * R k) * Ideal.ofBits .f32 0x39000000#32 + Ideal.ofBits .f32 0x358637BD#32)

/-- A row normalised, with its gain. -/
def norm (R g : Fin 8192 → EReal) (k : Fin 8192) : EReal := R k * rms R * g k

/-- Group `g` of a row. -/
def grp (f : Fin 8192 → EReal) (g : Fin 64) (l : Fin 128) : EReal := f ⟨128 * g.val + l.val, by omega⟩

/-- The code of a normalised row at column `c`. -/
def ycode (R g : Fin 8192 → EReal) (c : Fin 8192) : EReal :=
  code (grp (norm R g) ⟨c.val / 128, by omega⟩) ⟨c.val % 128, by omega⟩

/-- The scale of group `j` of a normalised row. -/
def yscale (R g : Fin 8192 → EReal) (j : Fin 64) : EReal := scale (grp (norm R g) j)

/-! ## Readings of the operations, the extents being variables -/

theorem exists_ix2 {a b : ℕ} (y : (⟨2, ![a, b]⟩ : Shape).Idx) : ∃ (r : Fin a) (k : Fin b), y = ix2 r k :=
  ⟨y 0, y 1, funext fun i => by fin_cases i <;> rfl⟩

theorem ext_ix2 {a b : ℕ} (y : (⟨2, ![a, b]⟩ : Shape).Idx) (r : Fin a) (k : Fin b) (h0 : (y 0).val = r.val) (h1 : (y 1).val = k.val) :
    y = ix2 r k := funext fun i => by
  fin_cases i
  · exact Fin.ext h0
  · exact Fin.ext h1

theorem rowMax2 {a b : ℕ} (v : FVec Ideal ⟨2, ![a, b]⟩ .f32) (w : BitVec 32) (h : (⟨2, ![a, b]⟩ : Shape).Reduces [1] ⟨1, ![a]⟩)
    (hφ : FKind.Formats .f32) (hacc : w = FKind.maximumf.neutral .f32 hφ) (r : Fin a) :
    multiReduction (F := Ideal) .maximumf [1] ⟨1, ![a]⟩ v w h hφ hacc (ix1 r)
      = Finset.univ.fold max (Ideal.ofBits .f32 w) fun k : Fin b => v (ix2 r k) :=
  (multiReduction_maximumf_eq_fold (F := Ideal) v w h hφ hacc (ix1 r)).trans (h.fold_fiber_r2_a1 (ix1 r) _ _ _)

theorem rowMax3 {a b c : ℕ} (v : FVec Ideal ⟨3, ![a, b, c]⟩ .f32) (w : BitVec 32) (h : (⟨3, ![a, b, c]⟩ : Shape).Reduces [2] ⟨2, ![a, b]⟩)
    (hφ : FKind.Formats .f32) (hacc : w = FKind.maximumf.neutral .f32 hφ) (r : Fin a) (g : Fin b) :
    multiReduction (F := Ideal) .maximumf [2] ⟨2, ![a, b]⟩ v w h hφ hacc (ix2 r g)
      = Finset.univ.fold max (Ideal.ofBits .f32 w) fun k : Fin c => v (ix3 r g k) :=
  (multiReduction_maximumf_eq_fold (F := Ideal) v w h hφ hacc (ix2 r g)).trans (h.fold_fiber_r3_a2 (ix2 r g) _ _ _)

theorem rowSum2 {a b : ℕ} (v : FVec Ideal ⟨2, ![a, b]⟩ .f32) (w : BitVec 32) (h : (⟨2, ![a, b]⟩ : Shape).Reduces [1] ⟨1, ![a]⟩)
    (hφ : FKind.Formats .f32) (hacc : w = FKind.add.neutral .f32 hφ) (r : Fin a) :
    multiReduction (F := Ideal) .add [1] ⟨1, ![a]⟩ v w h hφ hacc (ix1 r) = ∑ k : Fin b, v (ix2 r k) :=
  Ideal.reduceAdd_r2_a1 h v (ix1 r)

theorem cast_1_2 {α : Type} {a : ℕ} (v : (⟨1, ![a]⟩ : Shape).Idx → α) (h : (⟨1, ![a]⟩ : Shape).ShapeCasts ⟨2, ![a, 1]⟩) (r : Fin a) (l : Fin 1) :
    shapeCast ⟨2, ![a, 1]⟩ v h (ix2 r l) = v (ix1 r) := by
  refine congrArg v (Shape.reshapeEquiv_eq_of_vals _ _ _ _ _ (rowMajor_val1 _) (rowMajor_val2 _ 1 rfl) ?_)
  show r.val = r.val * 1 + l.val
  omega

theorem cast_2_31 {α : Type} {a b : ℕ} (v : (⟨2, ![a, b]⟩ : Shape).Idx → α) (h : (⟨2, ![a, b]⟩ : Shape).ShapeCasts ⟨3, ![a, b, 1]⟩)
    (r : Fin a) (g : Fin b) (l : Fin 1) : shapeCast ⟨3, ![a, b, 1]⟩ v h (ix3 r g l) = v (ix2 r g) := by
  refine congrArg v (Shape.reshapeEquiv_eq_of_vals _ _ _ _ _ (rowMajor_val2 _ b rfl) (rowMajor_val3 _ (b * 1) 1 rfl rfl) ?_)
  show r.val * b + g.val = r.val * (b * 1) + g.val * 1 + l.val
  rw [Nat.mul_one, Nat.mul_one]; omega

theorem cast_31_2 {α : Type} {a b : ℕ} (v : (⟨3, ![a, b, 1]⟩ : Shape).Idx → α) (h : (⟨3, ![a, b, 1]⟩ : Shape).ShapeCasts ⟨2, ![a, b]⟩)
    (r : Fin a) (g : Fin b) : shapeCast ⟨2, ![a, b]⟩ v h (ix2 r g) = v (ix3 r g 0) := by
  refine congrArg v (Shape.reshapeEquiv_eq_of_vals _ _ _ _ _ (rowMajor_val3 _ (b * 1) 1 rfl rfl) (rowMajor_val2 _ b rfl) ?_)
  show r.val * (b * 1) + g.val * 1 + 0 = r.val * b + g.val
  rw [Nat.mul_one, Nat.mul_one, Nat.add_zero]

/-- Rows cut in groups: element `l` of group `g` is element `g * c + l` of the row. -/
theorem cast_2_3 {α : Type} {a n b c : ℕ} (hn : n = b * c) (v : (⟨2, ![a, n]⟩ : Shape).Idx → α)
    (h : (⟨2, ![a, n]⟩ : Shape).ShapeCasts ⟨3, ![a, b, c]⟩)
    (r : Fin a) (g : Fin b) (l : Fin c) (k : Fin n) (hk : k.val = g.val * c + l.val) :
    shapeCast ⟨3, ![a, b, c]⟩ v h (ix3 r g l) = v (ix2 r k) := by
  refine congrArg v (Shape.reshapeEquiv_eq_of_vals _ _ _ _ _ (rowMajor_val2 _ n rfl) (rowMajor_val3 _ (b * c) c rfl rfl) ?_)
  show r.val * n + k.val = r.val * (b * c) + g.val * c + l.val
  rw [hk, hn]; omega

theorem cast_3_2 {α : Type} {a n b c : ℕ} (hn : n = b * c) (v : (⟨3, ![a, b, c]⟩ : Shape).Idx → α)
    (h : (⟨3, ![a, b, c]⟩ : Shape).ShapeCasts ⟨2, ![a, n]⟩)
    (r : Fin a) (g : Fin b) (l : Fin c) (k : Fin n) (hk : k.val = g.val * c + l.val) :
    shapeCast ⟨2, ![a, n]⟩ v h (ix2 r k) = v (ix3 r g l) := by
  refine congrArg v (Shape.reshapeEquiv_eq_of_vals _ _ _ _ _ (rowMajor_val3 _ (b * c) c rfl rfl) (rowMajor_val2 _ n rfl) ?_)
  show r.val * (b * c) + g.val * c + l.val = r.val * n + k.val
  rw [hk, hn]; omega

theorem bcast_col {α : Type} {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r 0) := by
  refine congrArg v (funext fun i => ?_)
  fin_cases i
  · refine Fin.ext ?_
    show (if h : a = 1 then (⟨0, by omega⟩ : Fin a) else ⟨r.val, r.isLt⟩).val = r.val
    split
    · omega
    · rfl
  · exact Subsingleton.elim (α := Fin 1) _ _

theorem bcast_row {α : Type} {a b : ℕ} (v : (⟨2, ![1, b]⟩ : Shape).Idx → α) (h : (⟨2, ![1, b]⟩ : Shape).Broadcasts ⟨2, ![a, b]⟩)
    (r : Fin a) (k : Fin b) : broadcastTo ⟨2, ![a, b]⟩ v h (ix2 r k) = v (ix2 0 k) := by
  refine congrArg v (funext fun i => ?_)
  fin_cases i
  · exact Subsingleton.elim (α := Fin 1) _ _
  · refine Fin.ext ?_
    show (if h : b = 1 then (⟨0, by omega⟩ : Fin b) else ⟨k.val, k.isLt⟩).val = k.val
    split
    · omega
    · rfl

theorem bcast_last {α : Type} {a b c : ℕ} (v : (⟨3, ![a, b, 1]⟩ : Shape).Idx → α) (h : (⟨3, ![a, b, 1]⟩ : Shape).Broadcasts ⟨3, ![a, b, c]⟩)
    (r : Fin a) (g : Fin b) (k : Fin c) : broadcastTo ⟨3, ![a, b, c]⟩ v h (ix3 r g k) = v (ix3 r g 0) := by
  refine congrArg v (funext fun i => ?_)
  fin_cases i
  · refine Fin.ext ?_
    show (if h : a = 1 then (⟨0, by omega⟩ : Fin a) else ⟨r.val, r.isLt⟩).val = r.val
    split
    · omega
    · rfl
  · refine Fin.ext ?_
    show (if h : b = 1 then (⟨0, by omega⟩ : Fin b) else ⟨g.val, g.isLt⟩).val = g.val
    split
    · omega
    · rfl
  · exact Subsingleton.elim (α := Fin 1) _ _

/-- Dividing by 8192 is multiplying by its reciprocal. -/
theorem div_8192 (x : EReal) : Ideal.div x (Ideal.ofBits .f32 0x46000000#32) = x * Ideal.ofBits .f32 0x39000000#32 := by
  have h1 : Ideal.ofBits .f32 0x46000000#32 = (((2 : ℝ) ^ ((140 : ℕ) - 127 : ℤ) : ℝ) : EReal) := valAt_mid 140 (by omega) (by omega)
  have h2 : Ideal.ofBits .f32 0x39000000#32 = (((2 : ℝ) ^ ((114 : ℕ) - 127 : ℤ) : ℝ) : EReal) := valAt_mid 114 (by omega) (by omega)
  rw [h1, h2, Ideal.div_coe (zpow_ne_zero _ (by norm_num))]
  refine congrArg (fun r : ℝ => x * (r : EReal)) ?_
  rw [one_div, ← zpow_neg]
  norm_num

end Cert.Spec
end
-- ==== Proof.Block.lean ====
module

public import proofs.«01_k».proof.Proof.Trip
public import Idealize.ShloMosaic.Lib.Pointwise.Index
public import Idealize.ShloMosaic.Lib.Pipeline.Value
public import Idealize.ShloMosaic.Lib.Pipeline.ValueKit.Tiles

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

theorem trips_ge : 16 ≤ k1_t1_loop.trips := by decide +kernel

/-- The trip that treats row `a` of the block. -/
def tripOf (a : Fin 512) : Fin k1_t1_loop.trips := ⟨a.val / 32, lt_of_lt_of_le (by omega) trips_ge⟩

/-- The codes of a row block, from the scratch and gamma. -/
def yOut (X : Vec F S16x512x512 .bf16) (G : Vec F S1x8192 .bf16) : Vec F S512x8192 .fp8e4m3 := fun y =>
  groupCodes (groupN X G (tripOf (y 0)) ⟨(y 1).val / 128, by have := (y 1).isLt; change (y 1).val < 8192 at this; omega⟩)
    (ix2 (⟨(y 0).val % 32, by omega⟩ : Fin 32) (⟨(y 1).val % 128, by omega⟩ : Fin 128))

/-- The scales of a row block. -/
def sOut (X : Vec F S16x512x512 .bf16) (G : Vec F S1x8192 .bf16) : Vec F S512x64 .f32 := fun y =>
  groupScale (groupN X G (tripOf (y 0)) (y 1)) (ix2 (⟨(y 0).val % 32, by omega⟩ : Fin 32) (0 : Fin 1))

theorem yOut_of (X : Vec F S16x512x512 .bf16) (G : Vec F S1x8192 .bf16) (y : S512x8192.Idx) (k : Fin k1_t1_loop.trips) (g : Fin 64)
    (x : S32x128.Idx) (h0 : (y 0).val = 32 * k.val + (x 0).val) (h1 : (y 1).val = 128 * g.val + (x 1).val) :
    yOut X G y = groupCodes (groupN X G k g) x := by
  have hx0 : (x 0).val < 32 := (x 0).isLt
  have hx1 : (x 1).val < 128 := (x 1).isLt
  have e1 : tripOf (y 0) = k := Fin.ext (show (y 0).val / 32 = k.val by omega)
  have e2 : ∀ h, (⟨(y 1).val / 128, h⟩ : Fin 64) = g := fun h => Fin.ext (show (y 1).val / 128 = g.val by omega)
  have e3 : ∀ h h', ix2 (⟨(y 0).val % 32, h⟩ : Fin 32) (⟨(y 1).val % 128, h'⟩ : Fin 128) = x := by
    intro h h'
    funext a
    fin_cases a
    · exact Fin.ext (show (y 0).val % 32 = (x 0).val by omega)
    · exact Fin.ext (show (y 1).val % 128 = (x 1).val by omega)
  unfold yOut
  rw [e1, e2, e3]

theorem sOut_of (X : Vec F S16x512x512 .bf16) (G : Vec F S1x8192 .bf16) (y : S512x64.Idx) (k : Fin k1_t1_loop.trips) (g : Fin 64)
    (x : S32x1.Idx) (h0 : (y 0).val = 32 * k.val + (x 0).val) (h1 : (y 1).val = g.val) :
    sOut X G y = groupScale (groupN X G k g) x := by
  have hx0 : (x 0).val < 32 := (x 0).isLt
  have hx1 : (x 1).val < 1 := (x 1).isLt
  have e1 : tripOf (y 0) = k := Fin.ext (show (y 0).val / 32 = k.val by omega)
  have e2 : y 1 = g := Fin.ext h1
  have e3 : ∀ h, ix2 (⟨(y 0).val % 32, h⟩ : Fin 32) (0 : Fin 1) = x := by
    intro h
    funext a
    fin_cases a
    · exact Fin.ext (show (y 0).val % 32 = (x 0).val by omega)
    · exact Fin.ext (show 0 = (x 1).val by omega)
  unfold sOut
  rw [e1, e2, e3]

/-- Every piece trip `k` stores is a piece of the whole block's codes. -/
theorem yPieces_eq (X : Vec F S16x512x512 .bf16) (G : Vec F S1x8192 .bf16) (k : Fin k1_t1_loop.trips) :
    ∀ p ∈ yPieces X G k, ∀ x : p.1.shape.Idx, p.2 x = yOut X G (p.1.emb x) := by
  intro p hp
  obtain ⟨j, rfl⟩ := (List.mem_ofFn).mp hp
  intro x
  refine (yOut_of X G _ k (Fin.rev j) x ?_ ?_).symm
  · show rowAt k + 1 * (x 0).val = _
    have := rowAt_eq k; omega
  · show 128 * (Fin.rev j).val + 1 * (x 1).val = _
    rw [Nat.one_mul]

theorem sPieces_eq (X : Vec F S16x512x512 .bf16) (G : Vec F S1x8192 .bf16) (k : Fin k1_t1_loop.trips) :
    ∀ p ∈ sPieces X G k, ∀ x : p.1.shape.Idx, p.2 x = sOut X G (p.1.emb x) := by
  intro p hp
  obtain rfl := List.mem_singleton.mp hp
  intro x
  show sRows X G k x = _
  unfold sRows
  refine concatenate_ofFn_unit_eq (s₁ := S32x1) (t := S32x64) 1 (fun g : Fin 64 => groupScale (groupN X G k g)) _ x _ rfl rfl ?_
  intro n i hn h0 hb
  refine (sOut_of X G _ k n i ?_ ?_).symm
  · show rowAt k + 1 * (x 0).val = _
    have : (i 0).val = (x 0).val := hb 0 (by decide)
    have := rowAt_eq k; omega
  · show 0 + 1 * (x 1).val = _
    rw [Nat.zero_add, Nat.one_mul]; exact hn

/-- Every element of the block is stored by the trip that treats its row. -/
theorem y_cover (X : Vec F S16x512x512 .bf16) (G : Vec F S1x8192 .bf16) (y : S512x8192.Idx) :
    ∃ p ∈ yPieces X G (tripOf (y 0)), y ∈ p.1.set := by
  have hy1 : (y 1).val < 8192 := (y 1).isLt
  have h1 := rowAt_eq (tripOf (y 0))
  have h2 : (tripOf (y 0)).val = (y 0).val / 32 := rfl
  let g : Fin 64 := ⟨(y 1).val / 128, by omega⟩
  refine ⟨_, (List.mem_ofFn).mpr ⟨Fin.rev g, rfl⟩, ?_⟩
  have hg : (Fin.rev (Fin.rev g)).val = (y 1).val / 128 := by rw [Fin.rev_rev]
  refine (Rect.mem_set_unit (inb := y_inb _ _)).mpr ?_
  intro a
  fin_cases a
  · show rowAt (tripOf (y 0)) ≤ (y 0).val ∧ (y 0).val < rowAt (tripOf (y 0)) + 32; omega
  · show 128 * (Fin.rev (Fin.rev g)).val ≤ (y 1).val ∧ (y 1).val < 128 * (Fin.rev (Fin.rev g)).val + 128; omega

theorem s_cover (X : Vec F S16x512x512 .bf16) (G : Vec F S1x8192 .bf16) (y : S512x64.Idx) :
    ∃ p ∈ sPieces X G (tripOf (y 0)), y ∈ p.1.set := by
  have hy1 : (y 1).val < 64 := (y 1).isLt
  have h1 := rowAt_eq (tripOf (y 0))
  have h2 : (tripOf (y 0)).val = (y 0).val / 32 := rfl
  refine ⟨_, List.mem_singleton.mpr rfl, ?_⟩
  refine (Rect.mem_set_unit (inb := s_inb _)).mpr ?_
  intro a
  fin_cases a
  · show rowAt (tripOf (y 0)) ≤ (y 0).val ∧ (y 0).val < rowAt (tripOf (y 0)) + 32; omega
  · show 0 ≤ (y 1).val ∧ (y 1).val < 0 + 64; omega

section
variable (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (k1_h1 : k1_cond1 i = 1#1) (X_arg7 : BufTy.Contents (Elt F) arg7.view.ty) (X_arg11 : BufTy.Contents (Elt F) arg11.view.ty)

/-- The pieces of the first `n` trips are those of the trips, each once. -/
theorem pb_mem (n : ℕ) (hn : n ≤ k1_t1_loop.trips) :
    (∀ p, p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 n).1 ↔
      ∃ k : Fin k1_t1_loop.trips, k.val < n ∧ p ∈ yPieces (arg11.view.read (Elt F) X_arg11) (arg7.view.read (Elt F) X_arg7) k) ∧
    (∀ p, p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 n).2 ↔
      ∃ k : Fin k1_t1_loop.trips, k.val < n ∧ p ∈ sPieces (arg11.view.read (Elt F) X_arg11) (arg7.view.read (Elt F) X_arg7) k) := by
  induction n with
  | zero =>
    constructor <;> intro p <;> constructor
    · intro h; exact absurd h (List.not_mem_nil)
    · rintro ⟨k, hk, -⟩; omega
    · intro h; exact absurd h (List.not_mem_nil)
    · rintro ⟨k, hk, -⟩; omega
  | succ n ih =>
    obtain ⟨iy, is⟩ := ih (by omega)
    have key := pb_k1_t1_succ (F := F) Variants.none c none i arg2 harg2 arg3 harg3 arg4 harg4 arg5 harg5 arg6 harg6 arg7 harg7 arg8 harg8 arg9 harg9 arg10 harg10 arg11 harg11 k1_h1 X_arg7 X_arg11 ⟨n, by omega⟩
    have ty := trip_pieces (F := F) c i arg2 harg2 arg3 harg3 arg4 harg4 arg5 harg5 arg6 harg6 arg7 harg7 arg8 harg8 arg9 harg9 arg10 harg10 arg11 harg11 k1_h1 X_arg7 X_arg11 ⟨n, by omega⟩
    have ts := trip_scales (F := F) c i arg2 harg2 arg3 harg3 arg4 harg4 arg5 harg5 arg6 harg6 arg7 harg7 arg8 harg8 arg9 harg9 arg10 harg10 arg11 harg11 k1_h1 X_arg7 X_arg11 ⟨n, by omega⟩
    dsimp only at key
    rw [key]
    constructor <;> intro p
    · rw [List.mem_append, iy, ty]
      constructor
      · rintro (h | ⟨k, hk, h⟩)
        · exact ⟨_, Nat.lt_succ_self n, h⟩
        · exact ⟨k, by omega, h⟩
      · rintro ⟨k, hk, h⟩
        rcases Nat.lt_succ_iff_lt_or_eq.mp hk with h' | h'
        · exact .inr ⟨k, h', h⟩
        · rw [show k = ⟨n, hn⟩ from Fin.ext h'] at h
          exact .inl h
    · rw [List.mem_append, is, ts]
      constructor
      · rintro (h | ⟨k, hk, h⟩)
        · exact ⟨_, Nat.lt_succ_self n, h⟩
        · exact ⟨k, by omega, h⟩
      · rintro ⟨k, hk, h⟩
        rcases Nat.lt_succ_iff_lt_or_eq.mp hk with h' | h'
        · exact .inr ⟨k, h', h⟩
        · rw [show k = ⟨n, hn⟩ from Fin.ext h'] at h
          exact .inl h

/-- What the loop leaves in the codes' block, whatever was there. -/
theorem read_y (G9 : BufTy.Contents (Elt F) arg9.view.ty) :
    arg9.view.read (Elt F) (arg9.view.writes (Elt F) G9 (pb_k1_t1 (F := F) Variants.none c none i arg2 harg2 arg3 harg3 arg4 harg4 arg5 harg5 arg6 harg6 arg7 harg7 arg8 harg8 arg9 harg9 arg10 harg10 arg11 harg11 k1_h1 X_arg7 X_arg11 16).1)
      = yOut (arg11.view.read (Elt F) X_arg11) (arg7.view.read (Elt F) X_arg7) := by
  have hm := (pb_mem (F := F) c i arg2 harg2 arg3 harg3 arg4 harg4 arg5 harg5 arg6 harg6 arg7 harg7 arg8 harg8 arg9 harg9 arg10 harg10 arg11 harg11 k1_h1 X_arg7 X_arg11 16 trips_ge).1
  have hc : ∀ y, ∃ p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 16).1, y ∈ p.1.set := by
    intro y
    obtain ⟨p, hp, hy⟩ := y_cover (arg11.view.read (Elt F) X_arg11) (arg7.view.read (Elt F) X_arg7) y
    refine ⟨p, (hm p).mpr ⟨tripOf (y 0), ?_, hp⟩, hy⟩
    show (y 0).val / 32 < 16
    have : (y 0).val < 512 := (y 0).isLt
    omega
  rw [View.read_writes_eq_canon _ _ _ hc]
  funext y
  refine View.canon_apply_of_pieces _ _ ?_ y (hc y)
  intro p hp
  obtain ⟨k, -, hk⟩ := (hm p).mp hp
  exact yPieces_eq _ _ k p hk

/-- What the loop leaves in the scales' block, whatever was there. -/
theorem read_s (G10 : BufTy.Contents (Elt F) arg10.view.ty) :
    arg10.view.read (Elt F) (arg10.view.writes (Elt F) G10 (pb_k1_t1 (F := F) Variants.none c none i arg2 harg2 arg3 harg3 arg4 harg4 arg5 harg5 arg6 harg6 arg7 harg7 arg8 harg8 arg9 harg9 arg10 harg10 arg11 harg11 k1_h1 X_arg7 X_arg11 16).2)
      = sOut (arg11.view.read (Elt F) X_arg11) (arg7.view.read (Elt F) X_arg7) := by
  have hm := (pb_mem (F := F) c i arg2 harg2 arg3 harg3 arg4 harg4 arg5 harg5 arg6 harg6 arg7 harg7 arg8 harg8 arg9 harg9 arg10 harg10 arg11 harg11 k1_h1 X_arg7 X_arg11 16 trips_ge).2
  have hc : ∀ y, ∃ p ∈ (pb_k1_t1 (F := F) Variants.none c none i arg2 harg2 arg3 harg3 arg4 harg4 arg5 harg5 arg6 harg6 arg7 harg7 arg8 harg8 arg9 harg9 arg10 harg10 arg11 harg11 k1_h1 X_arg7 X_arg11 16).2, y ∈ p.1.set := by
    intro y
    obtain ⟨p, hp, hy⟩ := s_cover (arg11.view.read (Elt F) X_arg11) (arg7.view.read (Elt F) X_arg7) y
    refine ⟨p, (hm p).mpr ⟨tripOf (y 0), ?_, hp⟩, hy⟩
    show (y 0).val / 32 < 16
    have : (y 0).val < 512 := (y 0).isLt
    omega
  rw [View.read_writes_eq_canon _ _ _ hc]
  funext y
  refine View.canon_apply_of_pieces _ _ ?_ y (hc y)
  intro p hp
  obtain ⟨k, -, hk⟩ := (hm p).mp hp
  exact sPieces_eq _ _ k p hk

end

end Cert.KernelIdeal.Run
end
-- ==== Proof.KVal0.lean ====
module

public import proofs.«01_k».proof.Proof.Spec
public import proofs.«01_k».proof.Proof.Block

@[expose] public section

set_option maxRecDepth 16384

noncomputable section

namespace Cert.KernelIdeal.Run

open Idealize.ShloMosaic Idealize.ShloMosaic.TcCoe
open Cert.KernelIdeal.Gen
open Cert.Spec

/-! ## The first kernel's stores -/

theorem pay4_at (v : Vec Ideal S256x11264 .bf16) (j : S256x11264.Idx) : k0_pay4 v j = v j := by
  unfold k0_pay4
  exact congrFun (shapeCast_id v _) j

theorem pay5_at (v : Vec Ideal S256x11264 .bf16) (r : Fin 256) (l : Fin 1) :
    k0_pay5 v (ix2 r l) = amax fun k : Fin 11264 => v (ix2 r k) := by
  have hm := rowMax2 (a := 256) (b := 11264) (absf (k0_pay4 v)) 0xFF800000#32 reduces_S256x11264_S256 (.inl rfl) rfl r
  have hf : (fun k : Fin 11264 => absf (k0_pay4 v) (ix2 r k)) = fun k => FloatOps.absf (F := Ideal) (φ := .f32) (v (ix2 r k)) :=
    funext fun k => by rw [absf_apply, pay4_at]
  rw [hf] at hm
  unfold k0_pay5 amax
  rw [mulf_apply, cast_1_2 (a := 256)]
  exact congrArg (fun z : EReal => z * Ideal.ofBits .f32 0x3B124925#32) hm

theorem pay1_bits {F : FTy → Type} [FloatOps F] (v : Vec F S256x11264 .bf16) :
    k0_pay1 (k0_pay5 v) (k0_pay6 v) (k0_pay7 v) = scaleBits (k0_pay5 v) := rfl

theorem pay2_at (v : Vec Ideal S256x11264 .bf16) (r : Fin 256) (l : Fin 1) :
    k0_pay2 (k0_pay5 v) (k0_pay6 v) (k0_pay7 v) (ix2 r l) = scale fun k : Fin 11264 => v (ix2 r k) := by
  have h : k0_pay2 (k0_pay5 v) (k0_pay6 v) (k0_pay7 v) = scaleOf (k0_pay5 v) := by
    unfold k0_pay2; rw [pay1_bits]; rfl
  rw [h, scaleOf_at, pay5_at]; rfl

theorem pay3_at (v : Vec Ideal S256x11264 .bf16) (r : Fin 256) (k : Fin 11264) :
    k0_pay3 (k0_pay4 v) (k0_pay5 v) (k0_pay6 v) (k0_pay7 v) (ix2 r k) = code (fun k : Fin 11264 => v (ix2 r k)) k := by
  unfold k0_pay3
  rw [pay1_bits]
  rw [truncf_apply, minimumf_apply, maximumf_apply, mulf_apply, bcast_col (a := 256) (b := 11264)]
  have h : (bitcastToFloat .f32 (subi (broadcast S256x1 2130706432#32) (scaleBits (k0_pay5 v))) : FVec Ideal S256x1 .f32) (ix2 r 0)
      = Ideal.exp2 (0 - expo (amax fun k : Fin 11264 => v (ix2 r k))) := by
    rw [← pay5_at v r 0]; exact invScaleOf_at (k0_pay5 v) (ix2 r 0)
  rw [h, pay4_at]
  unfold code
  rfl

end Cert.KernelIdeal.Run
end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x11264 := Rect.unit (s := S256x11264) ![0, 0] S256x11264.size inb_S256x11264_S256x11264_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out (`unfold_out out0_W` opens a canon
    with them, `unfold_payloads` opens them with the payloads); the comment after each is the printed function's
    name for the value (a count appended where that name is bound again). -/

def k0_pay8 (x0 : Vec F S256x11264 .bf16) : FVec F S256x1 .f32 :=
  k0_pay5 (View.ld x0 r0_0) -- `v7`
def k0_pay9 (x0 : Vec F S256x11264 .bf16) : IVec S256x1 32 :=
  k0_pay6 (View.ld x0 r0_0) -- `v43`
def k0_pay10 (x0 : Vec F S256x11264 .bf16) : IVec S256x1 32 :=
  k0_pay7 (View.ld x0 r0_0) -- `v45`

/-- Window 1's staging buffer after the body, from the input windows' blocks: its 1 store as pieces, LAST
    FIRST (Lib/Pipeline/FrameBody.lean `View.canon`; the payloads are the skeleton's and the values stated above). -/
def out0_1 (x0 : Vec F S256x11264 .bf16) : Vec F S256x11264 .fp8e4m3 :=
  View.canon [⟨r0_0, k0_pay3 (k0_pay4 (View.ld x0 r0_0)) (k0_pay8 x0) (k0_pay9 x0) (k0_pay10 x0)⟩]

/-- Its stores tile the buffer (checked by evaluation), so they cover it. -/
theorem cover0_1 (p0 : Vec F S256x11264 .fp8e4m3) (y : S256x11264.Idx) :
    ∃ pc ∈ ([⟨r0_0, p0⟩] : List (View.Piece (Elt F) S256x11264 .fp8e4m3)), y ∈ pc.1.set :=
  View.cover_of_tiled [⟨r0_0, p0⟩] S256x11264.size (by rfl) y

/-- Window 2's staging buffer after the body, from the input windows' blocks: its 1 store as pieces, LAST
    FIRST (Lib/Pipeline/FrameBody.lean `View.canon`; the payloads are the skeleton's and the values stated above). -/
def out0_2 (x0 : Vec F S256x11264 .bf16) : Vec F S256x1 .f32 :=
  View.canon [⟨r0_1, k0_pay2 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x11264 .bf16) (harg1 : arg1.IsWhole) (arg2 : Memref sig .tc .vmem S256x11264 .fp8e4m3) (harg2 : arg2.IsWhole) (arg3 : Memref sig .tc .vmem S256x1 .f32) (harg3 : arg3.IsWhole)
    (x0 : Vec F S256x11264 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_oproj_norm_quant` (pipeline 1), at the entry contents `V` — class R -/

end Regions

end Cert.KernelIdeal.Run
end
-- ==== Proof.Final0.lean ====
module

public import proofs.«01_k».proof.Proof.KVal0
public import proofs.«01_k».proof.Proof.Region0
public import Idealize.ShloMosaic.Lib.Pipeline.ValueKit

@[expose] public section

set_option maxRecDepth 16384

noncomputable section

namespace Cert.KernelIdeal.Run

open Idealize.ShloMosaic Idealize.ShloMosaic.TcCoe
open Idealize.ShloMosaic.Pipeline (Dat)
open Cert.KernelIdeal.Gen
open Cert.Spec

variable (V : (c : Dev nD) → (b : Ref sig .tc) → Buf (Elt Ideal) ((c : Thread nD τ).loc b))

theorem index0_0 : ∀ t : Fin cfg0.N, win0_0.index t = ![t.val, 0] := by decide +kernel
theorem index0_1 : ∀ t : Fin cfg0.N, win0_1.index t = ![t.val, 0] := by decide +kernel
theorem index0_2 : ∀ t : Fin cfg0.N, win0_2.index t = ![t.val, 0] := by decide +kernel

theorem N0 : cfg0.N = 96 := by decide +kernel

/-- The first argument's rows, as the first kernel finds them. -/
abbrev xRow (c : Dev nD) (R : Fin 24576) : Fin 11264 → EReal := fun k => (V c main_v0 : S24576x11264.Idx → EReal) (ix2 R k)

/-- The block the first kernel reads at point `t`: 256 whole rows. -/
theorem iblk0_at (c : Dev nD) (t : Fin cfg0.N) (r : Fin 256) (k : Fin 11264) (R : Fin 24576) (hR : R.val = t.val * 256 + r.val) :
    iblk0 V c 0 t (ix2 r k) = xRow V c R k := by
  unfold iblk0 xRow
  refine congrArg (V c main_v0 : S24576x11264.Idx → EReal) (ext_ix2 _ R k ?_ ?_)
  · blk_simp [index0_0]
    exact hR.symm
  · blk_simp [index0_0]

theorem out0_1_at (x : Vec Ideal S256x11264 .bf16) (r : Fin 256) (k : Fin 11264) :
    out0_1 x (ix2 r k) = code (fun k : Fin 11264 => x (ix2 r k)) k := by
  unfold out0_1 k0_pay8 k0_pay9 k0_pay10
  frame_out
  exact pay3_at x r k

theorem out0_2_at (x : Vec Ideal S256x11264 .bf16) (r : Fin 256) (l : Fin 1) :
    out0_2 x (ix2 r l) = scale (fun k : Fin 11264 => x (ix2 r k)) := by
  unfold out0_2 k0_pay8 k0_pay9 k0_pay10
  frame_out
  exact pay2_at x r l

/-- The codes' array after the first kernel. -/
theorem final0_1 (c : Dev nD) : (dat0 V c).arrAt 1 cfg0.N = (fun y => code (xRow V c (y 0)) (y 1) : S24576x11264.Idx → EReal) := by
  refine (dat0 V c).arrAt_eq_of_covers 1 _ (by decide +kernel) fun t hf y => ?_
  blk_simp
  rw [after0_1]
  obtain ⟨r, k, rfl⟩ := exists_ix2 (a := 256) (b := 11264) y
  have h0 : ((win0_1.blk t).view.emb (ix2 r k) 0).val = t.val * 256 + r.val := by blk_simp [index0_1]
  have h1 : ((win0_1.blk t).view.emb (ix2 r k) 1).val = k.val := by blk_simp [index0_1]
  refine (out0_1_at _ r k).trans ?_
  have hk : (win0_1.blk t).view.emb (ix2 r k) 1 = k := Fin.ext h1
  rw [hk]
  exact congrArg (fun f => code f k) (funext fun k' => iblk0_at V c t r k' _ h0)

/-- The scales' array after the first kernel. -/
theorem final0_2 (c : Dev nD) : (dat0 V c).arrAt 2 cfg0.N = (fun y => scale (xRow V c (y 0)) : S24576x1.Idx → EReal) := by
  refine (dat0 V c).arrAt_eq_of_covers 2 _ (by decide +kernel) fun t hf y => ?_
  blk_simp
  rw [after0_2]
  obtain ⟨r, l, rfl⟩ := exists_ix2 (a := 256) (b := 1) y
  have h0 : ((win0_2.blk t).view.emb (ix2 r l) 0).val = t.val * 256 + r.val := by blk_simp [index0_2]
  refine (out0_2_at _ r l).trans ?_
  exact congrArg scale (funext fun k' => iblk0_at V c t r k' _ h0)

end Cert.KernelIdeal.Run
end
-- ==== Proof.KVal.lean ====
module

public import proofs.«01_k».proof.Proof.Spec
public import proofs.«01_k».proof.Proof.Block

@[expose] public section

set_option maxRecDepth 16384

noncomputable section

namespace Cert.KernelIdeal.Run

open Idealize.ShloMosaic Idealize.ShloMosaic.TcCoe
open Cert.KernelIdeal.Gen
open Cert.Spec

/-! ## The second kernel's block -/

theorem k1_pay1_at (v0 : Vec Ideal S512x11264 .fp8e4m3) (v2 : Vec Ideal S11264x512 .fp8e4m3) (v4 : Vec Ideal S512x1 .f32) (v8 : Vec Ideal S1x512 .f32) (v12 : Vec Ideal S512x512 .bf16) (r : Fin 512) (l : Fin 512) :
    k1_pay1 v0 v2 v4 v8 v12 (ix2 r l) = (∑ k, v0 (ix2 r k) * v2 (ix2 k l)) * v4 (ix2 r 0) * v8 (ix2 0 l) + v12 (ix2 r l) := by
  pointwise [k1_pay1]

theorem groupAmax_at (n : FVec Ideal S32x128 .f32) (r : Fin 32) (l : Fin 1) :
    groupAmax n (ix2 r l) = amax fun k : Fin 128 => n (ix2 r k) := by
  pointwise [groupAmax, amax]

theorem groupScale_at (n : FVec Ideal S32x128 .f32) (r : Fin 32) (l : Fin 1) :
    groupScale n (ix2 r l) = scale fun k : Fin 128 => n (ix2 r k) := by
  unfold groupScale
  rw [scaleOf_at, groupAmax_at]; rfl

theorem groupCodes_at (n : FVec Ideal S32x128 .f32) (r : Fin 32) (l : Fin 128) :
    groupCodes n (ix2 r l) = code (fun k : Fin 128 => n (ix2 r k)) l := by
  pointwise [groupCodes]
  rw [invScaleOf_at, groupAmax_at]; rfl

theorem blockSq_at (v : Vec Ideal S1x32x512 .bf16) (r : Fin 32) (l : Fin 1) :
    blockSq v (ix2 r l) = ∑ x, v (ix3 0 r x) * v (ix3 0 r x) := by
  pointwise [blockSq]

theorem normed_at (ss : FVec Ideal S32x1 .f32) (v : Vec Ideal S1x32x512 .bf16) (g : Vec Ideal S1x512 .bf16) (r : Fin 32) (l : Fin 512) :
    normed ss v g (ix2 r l) = v (ix3 0 r l) * Ideal.rsqrt (ss (ix2 r 0) * Ideal.ofBits .f32 0x39000000#32 + Ideal.ofBits .f32 0x358637BD#32) * g (ix2 0 l) := by
  pointwise [normed, invRms]

/-- The running sum over the first `n` blocks. -/
theorem sumSq_at (v : Fin 16 → Vec Ideal S1x32x512 .bf16) (r : Fin 32) (l : Fin 1) (n : ℕ) (hn : n ≤ 16) :
    sumSq v n hn (ix2 r l) = ∑ t : Fin n, ∑ x : Fin 512, v ⟨t.val, by omega⟩ (ix3 0 r x) * v ⟨t.val, by omega⟩ (ix3 0 r x) := by
  induction n with
  | zero =>
    show Ideal.ofBits .f32 0#32 = _
    rw [Fin.sum_univ_zero]
    exact valAt_zero
  | succ n ih =>
    rw [Fin.sum_univ_castSucc]
    show sumSq v n _ (ix2 r l) + blockSq (v ⟨n, hn⟩) (ix2 r l) = _
    rw [ih, blockSq_at]; rfl

theorem groupOf_at (n : FVec Ideal S32x512 .f32) (g : Fin 4) (r : Fin 32) (k : Fin 128) :
    groupOf n g (ix2 r k) = n (ix2 r ⟨128 * g.val + k.val, by omega⟩) := by
  fin_cases g <;> refine congrArg n (funext fun a => ?_) <;> fin_cases a <;> refine Fin.ext ?_
  all_goals first | exact Nat.zero_add _ | exact Nat.add_comm _ _ | rfl

/-- Row `r` of the trip's rows in the scratch, all sixteen blocks laid side by side. -/
def rowOf (X : Vec Ideal S16x512x512 .bf16) (a : Fin 512) (k : Fin 8192) : EReal :=
  X (ix3 ⟨k.val / 512, by omega⟩ a ⟨k.val % 512, by omega⟩)

def gamOf (G : Vec Ideal S1x8192 .bf16) (k : Fin 8192) : EReal := G (ix2 0 k)

theorem slot_at (X : Vec Ideal S16x512x512 .bf16) (a : Fin 512) (t : Fin 16) (r : Fin 32) (hr : a.val % 32 = r.val) (l : Fin 512) :
    slot X (tripOf a) t (ix3 0 r l) = rowOf X a ⟨512 * t.val + l.val, by omega⟩ := by
  unfold slot rowOf
  refine congrArg X (funext fun i => ?_)
  have h1 := rowAt_eq (tripOf a)
  have h2 : (tripOf a).val = a.val / 32 := rfl
  fin_cases i <;> refine Fin.ext ?_
  · show t.val + 1 * 0 = (512 * t.val + l.val) / 512; omega
  · show rowAt (tripOf a) + 1 * r.val = a.val; omega
  · show 0 + 1 * l.val = (512 * t.val + l.val) % 512; omega

theorem gam_at (G : Vec Ideal S1x8192 .bf16) (t : Fin 16) (l : Fin 512) :
    gam G t (ix2 0 l) = gamOf G ⟨512 * t.val + l.val, by omega⟩ := by
  unfold gam gamOf
  refine congrArg G (funext fun i => ?_)
  fin_cases i <;> refine Fin.ext ?_
  · rfl
  · show 512 * t.val + 1 * l.val = 512 * t.val + l.val; omega

theorem groupN_at (X : Vec Ideal S16x512x512 .bf16) (G : Vec Ideal S1x8192 .bf16) (a : Fin 512) (g : Fin 64) (r : Fin 32) (hr : a.val % 32 = r.val)
    (l : Fin 128) : groupN X G (tripOf a) g (ix2 r l) = grp (Spec.norm (rowOf X a) (gamOf G)) g l := by
  unfold groupN grp Spec.norm
  rw [groupOf_at, normed_at, slot_at X a _ r hr, gam_at, sumSq_at]
  have hk : 512 * (g.val / 4) + (128 * (g.val % 4) + l.val) = 128 * g.val + l.val := by omega
  have hs : (∑ t : Fin 16, ∑ x : Fin 512, slot X (tripOf a) ⟨t.val, by omega⟩ (ix3 0 r x) * slot X (tripOf a) ⟨t.val, by omega⟩ (ix3 0 r x))
      = ∑ k : Fin 8192, rowOf X a k * rowOf X a k := by
    rw [Fin.sum_univ_tiles 16 512 (by norm_num) fun k : Fin 8192 => rowOf X a k * rowOf X a k]
    refine Finset.sum_congr rfl fun t _ => Finset.sum_congr rfl fun x _ => ?_
    rw [slot_at X a ⟨t.val, by omega⟩ r hr x]
    have : (⟨512 * t.val + x.val, by omega⟩ : Fin 8192) = ⟨t.val * 512 + x.val, by omega⟩ := Fin.ext (by show 512 * t.val + x.val = t.val * 512 + x.val; omega)
    exact congrArg (fun k => rowOf X a k * rowOf X a k) this
  have e : ∀ h h', (⟨512 * (g.val / 4) + (128 * (g.val % 4) + l.val), h⟩ : Fin 8192) = ⟨128 * g.val + l.val, h'⟩ := fun _ _ => Fin.ext hk
  rw [hs, rms, e]

theorem yOut_at (X : Vec Ideal S16x512x512 .bf16) (G : Vec Ideal S1x8192 .bf16) (a : Fin 512) (c : Fin 8192) :
    yOut X G (ix2 a c) = ycode (rowOf X a) (gamOf G) c := by
  unfold yOut ycode
  rw [groupCodes_at]
  refine congrArg (fun f => code f _) (funext fun l => ?_)
  exact groupN_at X G a _ _ rfl l

theorem sOut_at (X : Vec Ideal S16x512x512 .bf16) (G : Vec Ideal S1x8192 .bf16) (a : Fin 512) (j : Fin 64) :
    sOut X G (ix2 a j) = yscale (rowOf X a) (gamOf G) j := by
  unfold sOut yscale
  rw [groupScale_at]
  refine congrArg scale (funext fun l => ?_)
  exact groupN_at X G a j _ rfl l

end Cert.KernelIdeal.Run
end
-- ==== Proof.Region1.lean ====
module

public import proofs.«01_k».proof.Proof.Block
public import Idealize.ShloMosaic.Lib.VecWindow
public import Idealize.ShloMosaic.Lib.WritesUnit
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The scratch with block `j` replaced by `r`. -/
def putSlot (j : ℕ) (xs : Vec F S16x512x512 .bf16) (r : FVec F S512x512 .bf16) : Vec F S16x512x512 .bf16 := fun y =>
  if (y 0).val = j then r (ix2 (y 1 : Fin 512) (y 2 : Fin 512)) else xs y

theorem k1_off1_eq (i : grid1.Coords) : k1_off1 i = ![(i 1).val, 0, 0] := by
  have h : (i 1).val < 16 := (i 1).isLt
  unfold k1_off1
  have e : (Scalar.indexCast (BitVec.ofNat 32 (i 1).val)).toNat = (i 1).val := by
    show (BitVec.ofNat 32 (i 1).val).toNat = _
    rw [BitVec.toNat_ofNat]; omega
  dsimp only
  rw [e]

/-- Writing a product block into its slot of the scratch. -/
theorem read_put (v : View sig .tc .vmem S16x512x512 .bf16) (f : v.ty.Contents (Elt F)) (i : grid1.Coords) (inb)
    (v0 : Vec F S512x11264 .fp8e4m3) (v2 : Vec F S11264x512 .fp8e4m3) (v4 : Vec F S512x1 .f32) (v8 : Vec F S1x512 .f32) (v12 : Vec F S512x512 .bf16) :
    v.read (Elt F) (v.writes (Elt F) f [⟨Rect.unit (s := S16x512x512) (k1_off1 i) S1x512x512.size inb, k1_pay2 v0 v2 v4 v8 v12⟩])
      = putSlot (i 1).val (v.read (Elt F) f) (k1_pay1 v0 v2 v4 v8 v12) := by
  funext y
  have h : (i 1).val < 16 := (i 1).isLt
  unfold putSlot
  by_cases hy : (y 0).val = (i 1).val
  · rw [if_pos hy]
    refine (View.read_writes_cons_unit_of_mem v f inb _ [] y (ix3 (0 : Fin 1) (y 1 : Fin 512) (y 2 : Fin 512) : S1x512x512.Idx) (k1_off1_eq i) ?_).trans ?_
    · intro a
      fin_cases a
      · show (y 0).val = (i 1).val + 0; omega
      · show (y 1).val = 0 + (y 1).val; omega
      · show (y 2).val = 0 + (y 2).val; omega
    · unfold k1_pay2
      refine (shapeCast_addUnit_apply ![512, 512] _ _ _).trans (congrArg (k1_pay1 v0 v2 v4 v8 v12) ?_)
      funext a
      fin_cases a <;> rfl
  · rw [if_neg hy]
    refine View.read_writes_cons_unit_of_not_mem v f inb _ [] y (k1_off1_eq i) 0 ?_
    show (y 0).val < (i 1).val ∨ (i 1).val + 1 ≤ (y 0).val
    omega

section
variable {arg2 : Memref sig .tc .vmem S512x11264 .fp8e4m3} (harg2 : arg2.IsWhole) {arg3 : Memref sig .tc .vmem S512x1 .f32} (harg3 : arg3.IsWhole) {arg4 : Memref sig .tc .vmem S11264x512 .fp8e4m3} (harg4 : arg4.IsWhole) {arg5 : Memref sig .tc .vmem S1x512 .f32} (harg5 : arg5.IsWhole) {arg6 : Memref sig .tc .vmem S512x512 .bf16} (harg6 : arg6.IsWhole)
  (x0 : Vec F S512x11264 .fp8e4m3) (x1 : Vec F S512x1 .f32) (x2 : Vec F S11264x512 .fp8e4m3) (x3 : Vec F S1x512 .f32) (x4 : Vec F S512x512 .bf16)
include harg2 harg3 harg4 harg5 harg6

/-- The product block of what the five input blocks hold. -/
theorem pay_loads (i0 i1 i2 i3 i4) :
    k1_pay1 (arg2.view.readAt (Elt F) (Rect.unit (s := S512x11264) ![0, 0] S512x11264.size i0).toLoadRect (harg2.unread x0))
      (arg4.view.readAt (Elt F) (Rect.unit (s := S11264x512) ![0, 0] S11264x512.size i1).toLoadRect (harg4.unread x2))
      (arg3.view.readAt (Elt F) (Rect.unit (s := S512x1) ![0, 0] S512x1.size i2).toLoadRect (harg3.unread x1))
      (arg5.view.readAt (Elt F) (Rect.unit (s := S1x512) ![0, 0] S1x512.size i3).toLoadRect (harg5.unread x3))
      (arg6.view.readAt (Elt F) (Rect.unit (s := S512x512) ![0, 0] S512x512.size i4).toLoadRect (harg6.unread x4))
      = k1_pay1 x0 x2 x1 x3 x4 := by
  rw [View.readAt_full, View.readAt_full, View.readAt_full, View.readAt_full, View.readAt_full, harg2.read_unread, harg3.read_unread,
    harg4.read_unread, harg5.read_unread, harg6.read_unread]

/-- The scratch after the point's store, from what it and the five input blocks hold. -/
theorem put_loads {arg11 : Memref sig .tc .vmem S16x512x512 .bf16} (harg11 : arg11.IsWhole) (i : grid1.Coords) (xs : Vec F S16x512x512 .bf16)
    (x0 : Vec F S512x11264 .fp8e4m3) (x1 : Vec F S512x1 .f32) (x2 : Vec F S11264x512 .fp8e4m3) (x3 : Vec F S1x512 .f32) (x4 : Vec F S512x512 .bf16) (inb i0 i1 i2 i3 i4) :
    arg11.view.read (Elt F) (arg11.view.writes (Elt F) (harg11.unread xs) [⟨Rect.unit (s := S16x512x512) (k1_off1 i) S1x512x512.size inb,
      k1_pay2 (arg2.view.readAt (Elt F) (Rect.unit (s := S512x11264) ![0, 0] S512x11264.size i0).toLoadRect (harg2.unread x0))
      (arg4.view.readAt (Elt F) (Rect.unit (s := S11264x512) ![0, 0] S11264x512.size i1).toLoadRect (harg4.unread x2))
      (arg3.view.readAt (Elt F) (Rect.unit (s := S512x1) ![0, 0] S512x1.size i2).toLoadRect (harg3.unread x1))
      (arg5.view.readAt (Elt F) (Rect.unit (s := S1x512) ![0, 0] S1x512.size i3).toLoadRect (harg5.unread x3))
      (arg6.view.readAt (Elt F) (Rect.unit (s := S512x512) ![0, 0] S512x512.size i4).toLoadRect (harg6.unread x4))⟩])
      = putSlot (i 1).val xs (k1_pay1 x0 x2 x1 x3 x4) := by
  rw [read_put, harg11.read_unread, pay_loads harg2 harg3 harg4 harg5 harg6]
end

set_option maxHeartbeats 1000000 in
/-- The body at a point that does not end a row block: the product block goes to the result and to its slot of the scratch. -/
theorem sound_kernel1_A (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (hc0 : ¬k1_cond1 i = 1#1)
    (x0 : Vec F S512x11264 .fp8e4m3) (x1 : Vec F S512x1 .f32) (x2 : Vec F S11264x512 .fp8e4m3) (x3 : Vec F S1x512 .f32) (x4 : Vec F S512x512 .bf16) (x5 : Vec F S1x8192 .bf16) (xs : Vec F S16x512x512 .bf16) (xi7 : Vec F S512x8192 .fp8e4m3) (xi8 : Vec F S512x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 x0 x2 x1 x3 x4) ∗ owns (c : Thread nD τ) arg9 fullShare xi7 ∗ owns (c : Thread nD τ) arg10 fullShare xi8 ∗ owns (c : Thread nD τ) arg11 fullShare (putSlot (i 1).val xs (k1_pay1 x0 x2 x1 x3 x4))) -∗ K ⟨⟩))
      ⊢ wp frame (wpE (defs₀ (F := F)) Variants.none c none) E (cc1_oproj_norm_quant i arg2 harg2 arg3 harg3 arg4 harg4 arg5 harg5 arg6 harg6 arg7 harg7 arg8 harg8 arg9 harg9 arg10 harg10 arg11 harg11) K := by
  simp only [cc1_oproj_norm_quant_eq_skeleton]; unfold cc1_oproj_norm_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg9.eq_unread hf7; obtain rfl := harg10.eq_unread hf8
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ []).trans (pay_loads harg2 harg3 harg4 harg5 harg6 x0 x1 x2 x3 x4 _ _ _ _ _)
  isplitl [H7]
  · iexists _; isplitr; · ipureintro; exact harg9.read_unread _
    iexact H7
  isplitl [H8]
  · iexists _; isplitr; · ipureintro; exact harg10.read_unread _
    iexact H8
  iexists _; isplitr; swap; · iexact HS0
  ipureintro
  exact put_loads harg2 harg3 harg4 harg5 harg6 harg11 i xs x0 x1 x2 x3 x4 _ _ _ _ _ _

set_option maxHeartbeats 1000000 in
/-- The body at a point that ends a row block: besides, the codes and the scales of the whole row block. -/
theorem sound_kernel1_B (c : Dev nD) (i : grid1.Coords) (arg2 : Memref sig .tc .vmem S512x11264 .fp8e4m3) (harg2 : arg2.IsWhole) (arg3 : Memref sig .tc .vmem S512x1 .f32) (harg3 : arg3.IsWhole) (arg4 : Memref sig .tc .vmem S11264x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x512 .bf16) (harg8 : arg8.IsWhole) (arg9 : Memref sig .tc .vmem S512x8192 .fp8e4m3) (harg9 : arg9.IsWhole) (arg10 : Memref sig .tc .vmem S512x64 .f32) (harg10 : arg10.IsWhole) (arg11 : Memref sig .tc .vmem S16x512x512 .bf16) (harg11 : arg11.IsWhole) (hc0 : k1_cond1 i = 1#1)
    (x0 : Vec F S512x11264 .fp8e4m3) (x1 : Vec F S512x1 .f32) (x2 : Vec F S11264x512 .fp8e4m3) (x3 : Vec F S1x512 .f32) (x4 : Vec F S512x512 .bf16) (x5 : Vec F S1x8192 .bf16) (xs : Vec F S16x512x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 x0 x2 x1 x3 x4) ∗ owns (c : Thread nD τ) arg9 fullShare (yOut (putSlot (i 1).val xs (k1_pay1 x0 x2 x1 x3 x4)) x5) ∗ owns (c : Thread nD τ) arg10 fullShare (sOut (putSlot (i 1).val xs (k1_pay1 x0 x2 x1 x3 x4)) x5) ∗ owns (c : Thread nD τ) arg11 fullShare (putSlot (i 1).val xs (k1_pay1 x0 x2 x1 x3 x4))) -∗ K ⟨⟩))
      ⊢ wp frame (wpE (defs₀ (F := F)) Variants.none c none) E (cc1_oproj_norm_quant i arg2 harg2 arg3 harg3 arg4 harg4 arg5 harg5 arg6 harg6 arg7 harg7 arg8 harg8 arg9 harg9 arg10 harg10 arg11 harg11) K := by
  simp only [cc1_oproj_norm_quant_eq_skeleton]; unfold cc1_oproj_norm_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full _ _ _ _ []).trans (pay_loads harg2 harg3 harg4 harg5 harg6 x0 x1 x2 x3 x4 _ _ _ _ _)
  isplitl [H7]
  · iexists _; isplitr; swap; · iexact H7
    ipureintro
    refine (read_y (F := F) c i arg2 harg2 arg3 harg3 arg4 harg4 arg5 harg5 arg6 harg6 arg7 harg7 arg8 harg8 arg9 harg9 arg10 harg10 arg11 harg11 hc0 _ _ _).trans ?_
    exact congrArg₂ yOut (put_loads harg2 harg3 harg4 harg5 harg6 harg11 i xs x0 x1 x2 x3 x4 _ _ _ _ _ _) (harg7.read_unread x5)
  isplitl [H8]
  · iexists _; isplitr; swap; · iexact H8
    ipureintro
    refine (read_s (F := F) c i arg2 harg2 arg3 harg3 arg4 harg4 arg5 harg5 arg6 harg6 arg7 harg7 arg8 harg8 arg9 harg9 arg10 harg10 arg11 harg11 hc0 _ _ _).trans ?_
    exact congrArg₂ sOut (put_loads harg2 harg3 harg4 harg5 harg6 harg11 i xs x0 x1 x2 x3 x4 _ _ _ _ _ _) (harg7.read_unread x5)
  iexists _; isplitr; swap; · iexact HS0
  ipureintro
  exact put_loads harg2 harg3 harg4 harg5 harg6 harg11 i xs x0 x1 x2 x3 x4 _ _ _ _ _ _

end Cert.KernelIdeal.Run
end
-- ==== Proof.Body1.lean ====
module

public import proofs.«01_k».proof.Proof.Region1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pointwise.Index
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 15 (mod 16) — by arithmetic of the point. -/
theorem hcond1_0 : ∀ t : Fin cfg1.N, cond1_0 (grid1.coords t) ↔ t.val % 16 = 15 :=
  (fun t => by
    have ht : t.val < 768 := Nat.lt_of_lt_of_eq t.isLt N_1
    have e0 : (grid1.coords t 0).val = t.val / 16 % 48 := Pipeline.Grid.coords_val t 0 (by decide) rfl
    have e1 : (grid1.coords t 1).val = t.val / 1 % 16 := Pipeline.Grid.coords_val t 1 (by decide) rfl
    simp only [cond1_0, k1_cond1, e0, e1]
    word_cmp
   : ∀ t : Fin grid1.N, cond1_0 (grid1.coords t) ↔ t.val % 16 = 15)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- At the points of case A the printed configuration (`Cfg.idle`) calls output 7 idle: the case stores nothing into it. -/
theorem idleAt1_7_A : ∀ t : Fin cfg1.N, ¬cond1_0 (grid1.coords t) → cfg1.idle 7 (grid1.coords t) = true := by decide +kernel
/-- At the points of case A the pipeline does not write output 7's block back. -/
theorem noFlush1_7_A : ∀ t : Fin cfg1.N, ¬cond1_0 (grid1.coords t) → (cfg1.win 7).flush t = false := by decide +kernel
/-- At the points of case B the printed configuration (`Cfg.idle`) calls output 7 live: the case stores into it. -/
theorem liveAt1_7_B : ∀ t : Fin cfg1.N, cond1_0 (grid1.coords t) → cfg1.idle 7 (grid1.coords t) = false := by decide +kernel
/-- At the points of case A the printed configuration (`Cfg.idle`) calls output 8 idle: the case stores nothing into it. -/
theorem idleAt1_8_A : ∀ t : Fin cfg1.N, ¬cond1_0 (grid1.coords t) → cfg1.idle 8 (grid1.coords t) = true := by decide +kernel
/-- At the points of case A the pipeline does not write output 8's block back. -/
theorem noFlush1_8_A : ∀ t : Fin cfg1.N, ¬cond1_0 (grid1.coords t) → (cfg1.win 8).flush t = false := by decide +kernel
/-- At the points of case B the printed configuration (`Cfg.idle`) calls output 8 live: the case stores into it. -/
theorem liveAt1_8_B : ∀ t : Fin cfg1.N, cond1_0 (grid1.coords t) → cfg1.idle 8 (grid1.coords t) = false := by decide +kernel

/-! ## The kernel body on any staging memrefs: a subtype the run finds -/

/-- One staging buffer of output window 6, through which its contents are stated (`View.read_writes_of_cover`: the
    choice does not matter). -/
abbrev VO1_6 : View sig .tc .vmem S512x512 .bf16 := (Memref.whole cc1_stg6_0 : Memref sig .tc .vmem S512x512 .bf16).view
/-- One staging buffer of output window 7, through which its contents are stated (`View.read_writes_of_cover`: the
    choice does not matter). -/
abbrev VO1_7 : View sig .tc .vmem S512x8192 .fp8e4m3 := (Memref.whole cc1_stg7_0 : Memref sig .tc .vmem S512x8192 .fp8e4m3).view
/-- One staging buffer of output window 8, through which its contents are stated (`View.read_writes_of_cover`: the
    choice does not matter). -/
abbrev VO1_8 : View sig .tc .vmem S512x64 .f32 := (Memref.whole cc1_stg8_0 : Memref sig .tc .vmem S512x64 .f32).view
/-- Each window's current staging memref at point `t`, spelled as the pipeline passes it (`bodyAt1`), and its wholeness. -/
abbrev ms1_0 (t : Fin cfg1.N) : Memref sig .tc .vmem S512x11264 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S11264x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8192 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x8192 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x64 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S16x512x512 .bf16 := Memref.whole cc1_scratch0

/-- A point's second coordinate is its place in its row block. -/
theorem coords1_1 : ∀ t : Fin cfg1.N, ((grid1.coords t) 1).val = t.val % 16 := by decide +kernel

/-- The product block of point `t`, from its input blocks. -/
def blk (c : Dev nD) (t : Fin cfg1.N) : FVec F S512x512 .bf16 :=
  k1_pay1 (iblk1 V c 0 t) (iblk1 V c 2 t) (iblk1 V c 1 t) (iblk1 V c 3 t) (iblk1 V c 4 t)

/-- Before position `n` the scratch holds the product blocks of the points of its row block that are past. -/
def Filled (c : Dev nD) (n : ℕ) (d : Vec F S16x512x512 .bf16) : Prop :=
  ∀ (y : S16x512x512.Idx) (t : Fin cfg1.N), t.val / 16 = n / 16 → t.val < n → (y 0).val = t.val % 16 →
    d y = blk V c t (ix2 (y 1 : Fin 512) (y 2 : Fin 512))

/-- The scratch when the row block of `t` is whole. -/
def scrAt (c : Dev nD) (t : Fin cfg1.N) : Vec F S16x512x512 .bf16 := fun y =>
  blk V c ⟨16 * (t.val / 16) + (y 0).val, by
    have h1 := t.isLt; have h2 : cfg1.N = 768 := N_1; have h3 : (y 0).val < 16 := (y 0).isLt; omega⟩ (ix2 (y 1 : Fin 512) (y 2 : Fin 512))

theorem filled_zero (c : Dev nD) (d : Vec F S16x512x512 .bf16) : Filled V c 0 d := fun _ _ _ h => absurd h (Nat.not_lt_zero _)

theorem filled_succ (c : Dev nD) (t : Fin cfg1.N) (d : Vec F S16x512x512 .bf16) (h : Filled V c t.val d) :
    Filled V c (t.val + 1) (putSlot ((grid1.coords t) 1).val d (blk V c t)) := by
  intro y t' h1 h2 h3
  rw [coords1_1]
  unfold putSlot
  by_cases e : t' = t
  · subst e; rw [if_pos h3]
  · have e' : t'.val ≠ t.val := fun hh => e (Fin.ext hh)
    rw [if_neg (by omega)]
    exact h y t' (by omega) (by omega) h3

theorem filled_last (c : Dev nD) (t : Fin cfg1.N) (h0 : t.val % 16 = 15) (d : Vec F S16x512x512 .bf16) (h : Filled V c t.val d) :
    putSlot ((grid1.coords t) 1).val d (blk V c t) = scrAt V c t := by
  funext y
  have h3 : (y 0).val < 16 := (y 0).isLt
  rw [coords1_1]
  unfold putSlot scrAt
  by_cases e : (y 0).val = t.val % 16
  · rw [if_pos e]
    have : ∀ hh, (⟨16 * (t.val / 16) + (y 0).val, hh⟩ : Fin cfg1.N) = t := fun hh => Fin.ext (by show 16 * (t.val / 16) + (y 0).val = t.val; omega)
    rw [this]
  · rw [if_neg e]
    exact h y ⟨16 * (t.val / 16) + (y 0).val, _⟩ (by show (16 * (t.val / 16) + (y 0).val) / 16 = _; omega) (by show 16 * (t.val / 16) + (y 0).val < _; omega)
      (by show (y 0).val = (16 * (t.val / 16) + (y 0).val) % 16; omega)

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant before position `n`: the other scoped buffers at some contents, the scratch filled as far as the row block has come,
    the generator register at some state. -/
def PhiK (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d ∗ ⌜Filled V c n d⌝)) ∗ (∃ r, prngReg c r))

theorem PhiK_of (c : Dev nD) : (Pipeline.ΦA spec1 c : sProp 𝕄) ⊢ PhiK V c 0 := by
  rw [PhiA1_eq]; unfold PhiK
  iintro ⟨⟨HR0, HR1, HR2, HR3, HR4, HR5, ⟨%d, HS0⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists d
    isplitl [HS0]; · iexact HS0
    ipureintro; exact filled_zero V c d
  iexact Hg

theorem PhiK_to (c : Dev nD) (n : ℕ) : PhiK V c n ⊢ (Pipeline.ΦA spec1 c : sProp 𝕄) := by
  rw [PhiA1_eq]; unfold PhiK
  iintro ⟨⟨HR0, HR1, HR2, HR3, HR4, HR5, ⟨%d, HS0, -⟩⟩, Hg⟩
  isplitl [HR0 HR1 HR2 HR3 HR4 HR5 HS0]
  · isplitl [HR0]; · iexact HR0
    isplitl [HR1]; · iexact HR1
    isplitl [HR2]; · iexact HR2
    isplitl [HR3]; · iexact HR3
    isplitl [HR4]; · iexact HR4
    isplitl [HR5]; · iexact HR5
    iexists d; iexact HS0
  iexact Hg

/-- The proof data of the second launch: each input's block as it stands, the product block, and at the end of a row block
    its codes and scales. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => blk V c t
    | ⟨7, _⟩ => yOut (scrAt V c t) (iblk1 V c 5 t)
    | ⟨8, _⟩ => sOut (scrAt V c t) (iblk1 V c 5 t)
  Φ n := PhiK V c n.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = blk V c t := by dsimp only [dat1]
theorem after1_7 (c : Dev nD) (t : Fin cfg1.N) : (dat1 V c).after 7 t = yOut (scrAt V c t) (iblk1 V c 5 t) := by dsimp only [dat1]
theorem after1_8 (c : Dev nD) (t : Fin cfg1.N) : (dat1 V c).after 8 t = sOut (scrAt V c t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 1600000 in
/-- The body at any point, by whether the point ends a row block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.castSucc = PhiK V c t.val from rfl, show (dat1 V c).Φ t.succ = PhiK V c (t.val + 1) from rfl]
  unfold PhiK
  have hN : t.val < 768 := lt_of_lt_of_eq t.isLt (show cfg1.N = 768 from N_1)
  by_cases h0 : t.val % 16 = 15
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7_B t ((hcond1_0 t).mpr h0)], after1_7]
    rw [show (dat1 V c).leavesExact 8 t = owns (c : Thread nD τ) (ms1_8 t) fullShare ((dat1 V c).after 8 t) from by
      unfold Dat.leavesExact; rw [liveAt1_8_B t ((hcond1_0 t).mpr h0)], after1_8]
    iintro ⟨⟨⟨HR0, HR1, HR2, HR3, HR4, HR5, ⟨%xs, HS0, %hxs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_B c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HR0 HR1 HR2 HR3 HR4 HR5 HS0 Hg]
    · isplitl [HR0 HR1 HR2 HR3 HR4 HR5 HS0]
      · isplitl [HR0]; · iexact HR0
        isplitl [HR1]; · iexact HR1
        isplitl [HR2]; · iexact HR2
        isplitl [HR3]; · iexact HR3
        isplitl [HR4]; · iexact HR4
        isplitl [HR5]; · iexact HR5
        iexists _
        isplitl [HS0]; · iexact HS0
        ipureintro; exact filled_succ V c t xs hxs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    have hl := filled_last V c t h0 xs hxs
    unfold blk at hl
    isplitl [H7]
    · rw [← hl]; iexact H7
    rw [← hl]; iexact H8
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [Dat.leavesExact_idle (dat1 V c) 7 t (idleAt1_7_A t (fun h => h0 ((hcond1_0 t).mp h))) (noFlush1_7_A t (fun h => h0 ((hcond1_0 t).mp h)))]
    rw [Dat.leavesExact_idle (dat1 V c) 8 t (idleAt1_8_A t (fun h => h0 ((hcond1_0 t).mp h))) (noFlush1_8_A t (fun h => h0 ((hcond1_0 t).mp h)))]
    iintro ⟨⟨⟨HR0, HR1, HR2, HR3, HR4, HR5, ⟨%xs, HS0, %hxs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) xs _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HR0 HR1 HR2 HR3 HR4 HR5 HS0 Hg]
    · isplitl [HR0 HR1 HR2 HR3 HR4 HR5 HS0]
      · isplitl [HR0]; · iexact HR0
        isplitl [HR1]; · iexact HR1
        isplitl [HR2]; · iexact HR2
        isplitl [HR3]; · iexact HR3
        isplitl [HR4]; · iexact HR4
        isplitl [HR5]; · iexact HR5
        iexists _
        isplitl [HS0]; · iexact HS0
        ipureintro; exact filled_succ V c t xs hxs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run
end
-- ==== Proof.Final1.lean ====
module

public import proofs.«01_k».proof.Proof.KVal
public import proofs.«01_k».proof.Proof.Body1
public import Idealize.ShloMosaic.Lib.Pipeline.ValueKit

@[expose] public section

set_option maxRecDepth 16384

noncomputable section

namespace Cert.KernelIdeal.Run

open Idealize.ShloMosaic Idealize.ShloMosaic.TcCoe
open Idealize.ShloMosaic.Pipeline (Dat)
open Cert.KernelIdeal.Gen
open Cert.Spec

variable (V : (c : Dev nD) → (b : Ref sig .tc) → Buf (Elt Ideal) ((c : Thread nD τ).loc b))

theorem index1_0 : ∀ t : Fin cfg1.N, win1_0.index t = ![t.val / 16, 0] := by decide +kernel
theorem index1_1 : ∀ t : Fin cfg1.N, win1_1.index t = ![t.val / 16, 0] := by decide +kernel
theorem index1_2 : ∀ t : Fin cfg1.N, win1_2.index t = ![0, t.val % 16] := by decide +kernel
theorem index1_3 : ∀ t : Fin cfg1.N, win1_3.index t = ![0, t.val % 16] := by decide +kernel
theorem index1_4 : ∀ t : Fin cfg1.N, win1_4.index t = ![t.val / 16, t.val % 16] := by decide +kernel
theorem index1_5 : ∀ t : Fin cfg1.N, win1_5.index t = ![0, 0] := by decide +kernel
theorem index1_6 : ∀ t : Fin cfg1.N, win1_6.index t = ![t.val / 16, t.val % 16] := by decide +kernel
theorem index1_7 : ∀ t : Fin cfg1.N, win1_7.index t = ![t.val / 16, 0] := by decide +kernel
theorem index1_8 : ∀ t : Fin cfg1.N, win1_8.index t = ![t.val / 16, 0] := by decide +kernel

/-! ## The arrays the second kernel finds -/

abbrev aCode (c : Dev nD) (R : Fin 24576) (k : Fin 11264) : EReal := (V c main_v1_0 : S24576x11264.Idx → EReal) (ix2 R k)
abbrev aScale (c : Dev nD) (R : Fin 24576) : EReal := (V c main_v1_1 : S24576x1.Idx → EReal) (ix2 R 0)
abbrev aW (c : Dev nD) (k : Fin 11264) (n : Fin 8192) : EReal := (V c main_arg1 : S11264x8192.Idx → EReal) (ix2 k n)
abbrev aWs (c : Dev nD) (n : Fin 8192) : EReal := (V c main_v2 : S1x8192.Idx → EReal) (ix2 0 n)
abbrev aRes (c : Dev nD) (R : Fin 24576) (n : Fin 8192) : EReal := (V c main_v3 : S24576x8192.Idx → EReal) (ix2 R n)
abbrev aGam (c : Dev nD) (n : Fin 8192) : EReal := (V c main_v4 : S1x8192.Idx → EReal) (ix2 0 n)

/-- The new residual at row `R` and column `n`. -/
def newRes (c : Dev nD) (R : Fin 24576) (n : Fin 8192) : EReal :=
  (∑ k, aCode V c R k * aW V c k n) * aScale V c R * aWs V c n + aRes V c R n

section
variable (c : Dev nD) (t : Fin cfg1.N) (r : Fin 512) (l : Fin 512) (R : Fin 24576) (n : Fin 8192)
  (hR : R.val = t.val / 16 * 512 + r.val) (hn : n.val = t.val % 16 * 512 + l.val)
include hR

theorem iblk1_0_at (k : Fin 11264) : iblk1 V c 0 t (ix2 r k) = aCode V c R k := by
  refine congrArg (V c main_v1_0 : S24576x11264.Idx → EReal) (ext_ix2 _ R k ?_ ?_)
  · blk_simp [index1_0]; exact hR.symm
  · blk_simp [index1_0]

theorem iblk1_1_at : iblk1 V c 1 t (ix2 r 0) = aScale V c R := by
  refine congrArg (V c main_v1_1 : S24576x1.Idx → EReal) (ext_ix2 _ R 0 ?_ ?_)
  · blk_simp [index1_1]; exact hR.symm
  · blk_simp [index1_1]

include hn
theorem iblk1_4_at : iblk1 V c 4 t (ix2 r l) = aRes V c R n := by
  refine congrArg (V c main_v3 : S24576x8192.Idx → EReal) (ext_ix2 _ R n ?_ ?_)
  · blk_simp [index1_4]; exact hR.symm
  · blk_simp [index1_4]; exact hn.symm

omit hR
theorem iblk1_2_at (k : Fin 11264) : iblk1 V c 2 t (ix2 k l) = aW V c k n := by
  refine congrArg (V c main_arg1 : S11264x8192.Idx → EReal) (ext_ix2 _ k n ?_ ?_)
  · blk_simp [index1_2]
  · blk_simp [index1_2]; exact hn.symm

theorem iblk1_3_at : iblk1 V c 3 t (ix2 0 l) = aWs V c n := by
  refine congrArg (V c main_v2 : S1x8192.Idx → EReal) (ext_ix2 _ 0 n ?_ ?_)
  · blk_simp [index1_3]
  · blk_simp [index1_3]; exact hn.symm

include hR
theorem blk_at : blk V c t (ix2 r l) = newRes V c R n := by
  unfold blk newRes
  rw [k1_pay1_at, iblk1_1_at V c t r R hR, iblk1_3_at V c t l n hn, iblk1_4_at V c t r l R n hR hn]
  refine congrArg (fun s : EReal => s * aScale V c R * aWs V c n + aRes V c R n) (Finset.sum_congr rfl fun k _ => ?_)
  rw [iblk1_0_at V c t r R hR, iblk1_2_at V c t l n hn]

end

theorem iblk1_5_at (c : Dev nD) (t : Fin cfg1.N) : gamOf (iblk1 V c 5 t) = aGam V c := by
  refine funext fun n => congrArg (V c main_v4 : S1x8192.Idx → EReal) (ext_ix2 _ 0 n ?_ ?_)
  · blk_simp [index1_5]
  · blk_simp [index1_5]

theorem scrAt_at (c : Dev nD) (t : Fin cfg1.N) (a : Fin 512) (R : Fin 24576) (hR : R.val = t.val / 16 * 512 + a.val) :
    rowOf (scrAt V c t) a = newRes V c R := by
  funext n
  unfold rowOf scrAt
  refine blk_at V c _ _ _ R n ?_ ?_
  · show R.val = (16 * (t.val / 16) + n.val / 512) / 16 * 512 + a.val
    have := n.isLt; omega
  · show n.val = (16 * (t.val / 16) + n.val / 512) % 16 * 512 + n.val % 512
    have := n.isLt; omega

/-! ## The arrays the second kernel leaves -/

theorem final1_6 (c : Dev nD) : (dat1 V c).arrAt 6 cfg1.N = (fun y => newRes V c (y 0) (y 1) : S24576x8192.Idx → EReal) := by
  refine (dat1 V c).arrAt_eq_of_covers 6 _ (by decide +kernel) fun t hf y => ?_
  blk_simp
  rw [after1_6]
  obtain ⟨r, l, rfl⟩ := exists_ix2 (a := 512) (b := 512) y
  have h0 : ((win1_6.blk t).view.emb (ix2 r l) 0).val = t.val / 16 * 512 + r.val := by blk_simp [index1_6]
  have h1 : ((win1_6.blk t).view.emb (ix2 r l) 1).val = t.val % 16 * 512 + l.val := by blk_simp [index1_6]
  exact blk_at V c t r l _ _ h0 h1

theorem final1_7 (c : Dev nD) : (dat1 V c).arrAt 7 cfg1.N = (fun y => ycode (newRes V c (y 0)) (aGam V c) (y 1) : S24576x8192.Idx → EReal) := by
  refine (dat1 V c).arrAt_eq_of_covers 7 _ (by decide +kernel) fun t hf y => ?_
  blk_simp
  rw [after1_7]
  obtain ⟨r, n, rfl⟩ := exists_ix2 (a := 512) (b := 8192) y
  have h0 : ((win1_7.blk t).view.emb (ix2 r n) 0).val = t.val / 16 * 512 + r.val := by blk_simp [index1_7]
  have h1 : ((win1_7.blk t).view.emb (ix2 r n) 1).val = n.val := by blk_simp [index1_7]
  have hn : (win1_7.blk t).view.emb (ix2 r n) 1 = n := Fin.ext h1
  refine (yOut_at _ _ r n).trans ?_
  rw [scrAt_at V c t r _ h0, iblk1_5_at, hn]

theorem final1_8 (c : Dev nD) : (dat1 V c).arrAt 8 cfg1.N = (fun y => yscale (newRes V c (y 0)) (aGam V c) (y 1) : S24576x64.Idx → EReal) := by
  refine (dat1 V c).arrAt_eq_of_covers 8 _ (by decide +kernel) fun t hf y => ?_
  blk_simp
  rw [after1_8]
  obtain ⟨r, j, rfl⟩ := exists_ix2 (a := 512) (b := 64) y
  have h0 : ((win1_8.blk t).view.emb (ix2 r j) 0).val = t.val / 16 * 512 + r.val := by blk_simp [index1_8]
  have h1 : ((win1_8.blk t).view.emb (ix2 r j) 1).val = j.val := by blk_simp [index1_8]
  have hn : (win1_8.blk t).view.emb (ix2 r j) 1 = j := Fin.ext h1
  refine (sOut_at _ _ r j).trans ?_
  rw [scrAt_at V c t r _ h0, iblk1_5_at, hn]

end Cert.KernelIdeal.Run
end
-- ==== Proof.Whole.lean ====
module

public import proofs.«01_k».proof.Proof.Spec

@[expose] public section

noncomputable section

namespace Cert.Spec

open Idealize.ShloMosaic

/-! ## The five results as whole arrays, of the arguments with their two leading axes laid in one -/

/-- A two-axis array of extended reals. -/
abbrev Arr (a b : ℕ) : Type := (⟨2, ![a, b]⟩ : Shape).Idx → EReal

/-- Each row's codes. -/
def codes (X : Arr 24576 11264) : Arr 24576 11264 := fun y => code (fun k => X (ix2 (y 0) k)) (y 1)

/-- Each row's scale. -/
def scales (X : Arr 24576 11264) : Arr 24576 1 := fun y => scale fun k : Fin 11264 => X (ix2 (y 0) k)

/-- The new residual. -/
def resid (X : Arr 24576 11264) (W : Arr 11264 8192) (Ws : Arr 1 8192) (Res : Arr 24576 8192) : Arr 24576 8192 :=
  fun y => proj (fun k => X (ix2 (y 0) k)) (fun k => W (ix2 k (y 1))) (Ws (ix2 0 (y 1))) (Res (ix2 (y 0) (y 1)))

/-- The codes of the rows of `R`, normalised. -/
def ycodes (R : Arr 24576 8192) (G : Arr 1 8192) : Arr 24576 8192 :=
  fun y => ycode (fun n => R (ix2 (y 0) n)) (fun n => G (ix2 0 n)) (y 1)

/-- The scales of the groups of the rows of `R`, normalised. -/
def yscales (R : Arr 24576 8192) (G : Arr 1 8192) : Arr 24576 64 :=
  fun y => yscale (fun n => R (ix2 (y 0) n)) (fun n => G (ix2 0 n)) (y 1)

end Cert.Spec
end
-- ==== Proof.Run.lean ====
module

public import proofs.«01_k».proof.Proof.Region0
public import proofs.«01_k».proof.Proof.Body1
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_v10]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiK (V3 m ρ) c 0 from rfl]
    refine BIBase.Entails.trans ?_ (PhiK_of (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiK (V3 m ρ) c (Fin.last (Pipeline.pin (pcfgs (F := F)) adm 1).N).val from rfl]
    refine BIBase.Entails.trans (PhiK_to (V3 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every execution ends with every array at the contents of the last boundary and
    every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run m ρ)

end Cert.KernelIdeal.Run
end
-- ==== Proof.KFinal.lean ====
module

public import proofs.«01_k».proof.Proof.Final0
public import proofs.«01_k».proof.Proof.Final1
public import proofs.«01_k».proof.Proof.Whole
public import proofs.«01_k».proof.Proof.Run

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal.Gen
open Cert.Spec

variable (m : (ℓ : Loc nD τ sig) → Buf (Elt Ideal) ℓ) (ρ : Dev nD → PrngReg)

/-! ## The arguments, their leading axes laid in one -/

abbrev fX (c : Dev nD) : Arr 24576 11264 := shapeCast S24576x11264 (m ((c : Thread nD τ).loc main_arg0)) shapeCasts_S4x6144x11264_S24576x11264
abbrev fW (c : Dev nD) : Arr 11264 8192 := m ((c : Thread nD τ).loc main_arg1)
abbrev fWs (c : Dev nD) : Arr 1 8192 := shapeCast S1x8192 (m ((c : Thread nD τ).loc main_arg2)) shapeCasts_S8192_S1x8192
abbrev fRes (c : Dev nD) : Arr 24576 8192 := shapeCast S24576x8192 (m ((c : Thread nD τ).loc main_arg3)) shapeCasts_S4x6144x8192_S24576x8192
abbrev fGam (c : Dev nD) : Arr 1 8192 := shapeCast S1x8192 (m ((c : Thread nD τ).loc main_arg4)) shapeCasts_S8192_S1x8192
abbrev fR (c : Dev nD) : Arr 24576 8192 := resid (fX m c) (fW m c) (fWs m c) (fRes m c)

/-! ## What the two kernels find -/

theorem V1_v0 (c : Dev nD) : (V1 m ρ c main_v0 : Arr 24576 11264) = fX m c := by
  show StableHlo.after hostOps0 (W0 m ρ c) (Proc.devRef .tc main_v0) = _
  after_results; rfl

theorem W2_v1_0 (c : Dev nD) : (W2 m ρ c (Proc.devRef .tc main_v1_0) : Arr 24576 11264) = codes (fX m c) := by
  refine (W2_arr m ρ c 1).trans ((final0_1 (V1 m ρ) c).trans ?_)
  rw [← V1_v0 m ρ c]; rfl

theorem W2_v1_1 (c : Dev nD) : (W2 m ρ c (Proc.devRef .tc main_v1_1) : Arr 24576 1) = scales (fX m c) := by
  refine (W2_arr m ρ c 2).trans ((final0_2 (V1 m ρ) c).trans ?_)
  rw [← V1_v0 m ρ c]; rfl

theorem V3_v1_0 (c : Dev nD) : (V3 m ρ c main_v1_0 : Arr 24576 11264) = codes (fX m c) :=
  (W3_of m ρ c main_v1_0 (by decide)).trans (W2_v1_0 m ρ c)
theorem V3_v1_1 (c : Dev nD) : (V3 m ρ c main_v1_1 : Arr 24576 1) = scales (fX m c) :=
  (W3_of m ρ c main_v1_1 (by decide)).trans (W2_v1_1 m ρ c)
theorem V3_arg1 (c : Dev nD) : (V3 m ρ c main_arg1 : Arr 11264 8192) = fW m c := W3_args m ρ c main_arg1 (by decide)
theorem V3_v2 (c : Dev nD) : (V3 m ρ c main_v2 : Arr 1 8192) = fWs m c := by
  unfold fWs
  rw [← W2_args m ρ c main_arg2 (by decide)]
  show StableHlo.after hostOps1 (W2 m ρ c) (Proc.devRef .tc main_v2) = _
  after_results; rfl
theorem V3_v3 (c : Dev nD) : (V3 m ρ c main_v3 : Arr 24576 8192) = fRes m c := by
  unfold fRes
  rw [← W2_args m ρ c main_arg3 (by decide)]
  show StableHlo.after hostOps1 (W2 m ρ c) (Proc.devRef .tc main_v3) = _
  after_results; rfl
theorem V3_v4 (c : Dev nD) : (V3 m ρ c main_v4 : Arr 1 8192) = fGam m c := by
  unfold fGam
  rw [← W2_args m ρ c main_arg4 (by decide)]
  show StableHlo.after hostOps1 (W2 m ρ c) (Proc.devRef .tc main_v4) = _
  after_results; rfl

/-! ## What the second kernel leaves -/

theorem newRes_eq (c : Dev nD) (R : Fin 24576) (n : Fin 8192) : newRes (V3 m ρ) c R n = fR m c (ix2 R n) := by
  unfold newRes
  have hs : (∑ k, aCode (V3 m ρ) c R k * aW (V3 m ρ) c k n) = ∑ k, codes (fX m c) (ix2 R k) * fW m c (ix2 k n) :=
    Finset.sum_congr rfl fun k _ => congrArg₂ (fun u v : EReal => u * v) (congrFun (V3_v1_0 m ρ c) _) (congrFun (V3_arg1 m ρ c) _)
  rw [hs,
    show aScale (V3 m ρ) c R = scales (fX m c) (ix2 R 0) from congrFun (V3_v1_1 m ρ c) _,
    show aWs (V3 m ρ) c n = fWs m c (ix2 0 n) from congrFun (V3_v2 m ρ c) _,
    show aRes (V3 m ρ) c R n = fRes m c (ix2 R n) from congrFun (V3_v3 m ρ c) _]
  rfl

theorem aGam_eq (c : Dev nD) : aGam (V3 m ρ) c = fun n => fGam m c (ix2 0 n) := funext fun n => congrFun (V3_v4 m ρ c) _

theorem W4_v5_0 (c : Dev nD) : (W4 m ρ c (Proc.devRef .tc main_v5_0) : Arr 24576 8192) = fR m c := by
  refine (W4_arr m ρ c 6).trans ((final1_6 (V3 m ρ) c).trans (funext fun y => ?_))
  exact newRes_eq m ρ c (y 0) (y 1)

theorem W4_v5_1 (c : Dev nD) : (W4 m ρ c (Proc.devRef .tc main_v5_1) : Arr 24576 8192) = ycodes (fR m c) (fGam m c) := by
  refine (W4_arr m ρ c 7).trans ((final1_7 (V3 m ρ) c).trans (funext fun y => ?_))
  rw [aGam_eq, show newRes (V3 m ρ) c (y 0) = fun n => fR m c (ix2 (y 0) n) from funext fun n => newRes_eq m ρ c (y 0) n]
  rfl

theorem W4_v5_2 (c : Dev nD) : (W4 m ρ c (Proc.devRef .tc main_v5_2) : Arr 24576 64) = yscales (fR m c) (fGam m c) := by
  refine (W4_arr m ρ c 8).trans ((final1_8 (V3 m ρ) c).trans (funext fun y => ?_))
  rw [aGam_eq, show newRes (V3 m ρ) c (y 0) = fun n => fR m c (ix2 (y 0) n) from funext fun n => newRes_eq m ρ c (y 0) n]
  rfl

theorem W4_v1_0 (c : Dev nD) : (W4 m ρ c (Proc.devRef .tc main_v1_0) : Arr 24576 11264) = codes (fX m c) :=
  (W4_of m ρ c main_v1_0 (by decide)).trans (V3_v1_0 m ρ c)
theorem W4_v1_1 (c : Dev nD) : (W4 m ρ c (Proc.devRef .tc main_v1_1) : Arr 24576 1) = scales (fX m c) :=
  (W4_of m ρ c main_v1_1 (by decide)).trans (V3_v1_1 m ρ c)

/-! ## The results -/

theorem W5_v6 (c : Dev nD) : W5 m ρ c (Proc.devRef .tc main_v6) = shapeCast S4x6144x8192 (fR m c) shapeCasts_S24576x8192_S4x6144x8192 := by
  rw [← W4_v5_0 m ρ c]
  show StableHlo.after hostOps2 (W4 m ρ c) (Proc.devRef .tc main_v6) = _
  after_results; rfl
theorem W5_v7 (c : Dev nD) : W5 m ρ c (Proc.devRef .tc main_v7) = shapeCast S4x6144x11264 (codes (fX m c)) shapeCasts_S24576x11264_S4x6144x11264 := by
  rw [← W4_v1_0 m ρ c]
  show StableHlo.after hostOps2 (W4 m ρ c) (Proc.devRef .tc main_v7) = _
  after_results; rfl
theorem W5_v8 (c : Dev nD) : W5 m ρ c (Proc.devRef .tc main_v8) = shapeCast S4x6144x1 (scales (fX m c)) shapeCasts_S24576x1_S4x6144x1 := by
  rw [← W4_v1_1 m ρ c]
  show StableHlo.after hostOps2 (W4 m ρ c) (Proc.devRef .tc main_v8) = _
  after_results; rfl
theorem W5_v9 (c : Dev nD) : W5 m ρ c (Proc.devRef .tc main_v9)
    = shapeCast S4x6144x8192 (ycodes (fR m c) (fGam m c)) shapeCasts_S24576x8192_S4x6144x8192 := by
  rw [← W4_v5_1 m ρ c]
  show StableHlo.after hostOps2 (W4 m ρ c) (Proc.devRef .tc main_v9) = _
  after_results; rfl
theorem W5_v10 (c : Dev nD) : W5 m ρ c (Proc.devRef .tc main_v10)
    = shapeCast S4x6144x64 (yscales (fR m c) (fGam m c)) shapeCasts_S24576x64_S4x6144x64 := by
  rw [← W4_v5_2 m ρ c]
  show StableHlo.after hostOps2 (W4 m ρ c) (Proc.devRef .tc main_v10) = _
  after_results; rfl

end Cert.KernelIdeal.Run
end
-- ==== Proof.RVal.lean ====
module

public import proofs.«01_k».proof.Proof.Spec
public import proofs.«01_k».proof.Proof.Gen.ReferenceIdeal.Skeleton

@[expose] public section

set_option maxRecDepth 16384

noncomputable section

namespace Cert.ReferenceIdeal.Run

open Idealize.ShloMosaic Idealize.ShloMosaic.TcCoe
open Cert.ReferenceIdeal Cert.ReferenceIdeal.Gen
open Cert.Spec
open Cert.KernelIdeal.Run (expo valAt valAt_zero valAt_mid)

/-! ## The reference's quantiser -/

theorem select_either (p q : Prop) [Decidable p] [Decidable q] (α : Type) (x y : α) :
    Scalar.select (IntOp.ori (BitVec.ofBool (decide p)) (BitVec.ofBool (decide q))) x y = if p ∨ q then x else y := by
  unfold Scalar.select IntOp.ori
  by_cases hp : p <;> by_cases hq : q <;> simp [hp, hq]

theorem one_word : Ideal.ofBits .f32 0x3F800000#32 = 1 :=
  (valAt_mid 127 (by omega) (by omega)).trans (by norm_num)

/-- The scales' exponents, of a vector `a` of largest absolute values over 448. -/
theorem exponent_at {S : Shape} (a : FVec Ideal S .f32) (i : S.Idx) :
    select (ori (cmpf .olt a (broadcast S (Scalar.ofBits .f32 0x00800000#32))) (cmpf .oge a (broadcast S (Scalar.ofBits .f32 0x7E800000#32))))
      (broadcast S (Scalar.ofBits .f32 0x00000000#32 : Ideal .f32))
      (addf (floor (divf (log a) (broadcast S (Named.named κ "ln2" 0x3F317218#32)))) (broadcast S (Scalar.ofBits .f32 0x3F800000#32))) i
      = expo (a i) := by
  show Scalar.select (IntOp.ori (BitVec.ofBool (decide (a i < valAt 1))) (BitVec.ofBool (decide (valAt 253 ≤ a i)))) (valAt 0)
    ((Ideal.liftRound Int.floor (Ideal.div (Ideal.log (a i)) ((Real.log 2 : ℝ) : EReal)) : EReal) + Ideal.ofBits .f32 0x3F800000#32) = _
  rw [select_either, valAt_zero, one_word]
  rfl

/-! ## The first operand's codes and scales -/

theorem pay4_at (v : Vec Ideal S24576x11264 .bf16) (r : Fin 24576) (k : Fin 11264) : k0_pay4 v (ix3 r 0 k) = v (ix2 r k) := by
  unfold k0_pay4
  rw [cast_2_3 (a := 24576) (n := 11264) (b := 1) (c := 11264) (by norm_num) _ _ r 0 k k (by simp)]
  exact congrFun (shapeCast_id v _) _

theorem pay5_at (v : Vec Ideal S24576x11264 .bf16) (r : Fin 24576) :
    k0_pay5 v (ix3 r 0 0) = expo (amax fun k : Fin 11264 => v (ix2 r k)) := by
  have hm := rowMax3 (a := 24576) (b := 1) (c := 11264) (absf (k0_pay4 v)) 0xFF800000#32 reduces_S24576x1x11264_S24576x1 (.inl rfl) rfl r 0
  have hf : (fun k : Fin 11264 => absf (k0_pay4 v) (ix3 r 0 k)) = fun k => FloatOps.absf (F := Ideal) (φ := .f32) (v (ix2 r k)) :=
    funext fun k => by rw [absf_apply, pay4_at]
  rw [hf] at hm
  unfold k0_pay5
  refine (exponent_at _ _).trans (congrArg expo ?_)
  rw [mulf_apply, cast_2_31 (a := 24576) (b := 1)]
  unfold amax
  exact congrArg (fun z : EReal => z * Ideal.ofBits .f32 0x3B124925#32) hm

theorem pay6_at (v : Vec Ideal S24576x11264 .bf16) (r : Fin 24576) (k : Fin 11264) :
    k0_pay6 v (ix2 r k) = code (fun k : Fin 11264 => v (ix2 r k)) k := by
  unfold k0_pay6
  rw [cast_3_2 (a := 24576) (n := 11264) (b := 1) (c := 11264) (by norm_num) _ _ r 0 k k (by simp)]
  rw [truncf_apply, minimumf_apply, maximumf_apply, mulf_apply, bcast_last (a := 24576) (b := 1) (c := 11264), exp2_apply, subf_apply, pay5_at, pay4_at]
  unfold code
  refine congrArg (fun z : EReal => min (Ideal.ofBits .f32 0x43E00000#32) (max (Ideal.ofBits .f32 0xC3E00000#32) (v (ix2 r k) * Ideal.exp2 (z - expo (amax fun k : Fin 11264 => v (ix2 r k)))))) valAt_zero

theorem pay7_at (v : Vec Ideal S24576x11264 .bf16) (r : Fin 24576) (l : Fin 1) :
    k0_pay7 v (ix2 r l) = scale fun k : Fin 11264 => v (ix2 r k) := by
  obtain rfl : l = 0 := Subsingleton.elim _ _
  unfold k0_pay7
  rw [cast_31_2 (a := 24576) (b := 1), exp2_apply, pay5_at]
  rfl

/-! ## The new residual -/

theorem pay8_at (v : Vec Ideal S24576x11264 .bf16) (w : Vec Ideal S11264x8192 .fp8e4m3) (r : Fin 24576) (n : Fin 8192) :
    k0_pay8 v w (ix2 r n) = ∑ k, code (fun k : Fin 11264 => v (ix2 r k)) k * w (ix2 k n) := by
  have h : k0_pay8 v w (ix2 r n) = ∑ k, k0_pay6 v (ix2 r k) * w (ix2 k n) := by
    pointwise [k0_pay8]
  rw [h]
  exact Finset.sum_congr rfl fun k _ => by rw [pay6_at]

theorem pay9_at (s : FVec Ideal S24576x1 .f32) (p : FVec Ideal S24576x8192 .f32) (ws : Vec Ideal S1x8192 .f32) (res : Vec Ideal S24576x8192 .bf16)
    (r : Fin 24576) (n : Fin 8192) :
    k0_pay9 s p ws res (ix2 r n) = p (ix2 r n) * s (ix2 r 0) * ws (ix2 0 n) + res (ix2 r n) := by
  unfold k0_pay9
  rw [truncf_apply, addf_apply, mulf_apply, mulf_apply, bcast_col (a := 24576) (b := 8192), bcast_row (a := 24576) (b := 8192), extf_apply,
    shapeCast_id, shapeCast_id]
  rfl

/-! ## The normalised rows and their codes -/

section
variable (s : FVec Ideal S24576x1 .f32) (p : FVec Ideal S24576x8192 .f32) (ws : Vec Ideal S1x8192 .f32) (res : Vec Ideal S24576x8192 .bf16)
  (gam : Vec Ideal S1x8192 .bf16) (R : Fin 24576 → Fin 8192 → EReal)
  (hR : ∀ (r : Fin 24576) (n : Fin 8192), k0_pay9 s p ws res (ix2 r n) = R r n)
include hR

theorem pay10_at (r : Fin 24576) (g : Fin 64) (l : Fin 128) :
    k0_pay10 s p ws res gam (ix3 r g l) = grp (Spec.norm (R r) fun k => gam (ix2 0 k)) g l := by
  have hs := rowSum2 (a := 24576) (b := 8192) (mulf (extf .f32 (k0_pay9 s p ws res) bitsLt_bf16_f32) (extf .f32 (k0_pay9 s p ws res) bitsLt_bf16_f32))
    0x00000000#32 reduces_S24576x8192_S24576 (.inl rfl) rfl r
  have hf : (fun k : Fin 8192 => mulf (extf .f32 (k0_pay9 s p ws res) bitsLt_bf16_f32) (extf .f32 (k0_pay9 s p ws res) bitsLt_bf16_f32) (ix2 r k))
      = fun k => (R r k * R r k : EReal) := funext fun k => by
    rw [mulf_apply, extf_apply, hR]; rfl
  rw [hf] at hs
  unfold k0_pay10
  rw [cast_2_3 (a := 24576) (n := 8192) (b := 64) (c := 128) (by norm_num) _ _ r g l ⟨128 * g.val + l.val, by omega⟩ (by show 128 * g.val + l.val = g.val * 128 + l.val; omega)]
  rw [mulf_apply, mulf_apply, bcast_col (a := 24576) (b := 8192), bcast_row (a := 24576) (b := 8192), extf_apply, extf_apply, hR, shapeCast_id,
    rsqrt_apply, addf_apply, divf_apply, cast_1_2 (a := 24576)]
  unfold grp Spec.norm rms
  rw [← div_8192, ← hs]
  rfl

theorem pay11_at (r : Fin 24576) (g : Fin 64) :
    k0_pay11 s p ws res gam (ix3 r g 0) = amax (grp (Spec.norm (R r) fun k => gam (ix2 0 k)) g) := by
  have hm := rowMax3 (a := 24576) (b := 64) (c := 128) (absf (k0_pay10 s p ws res gam)) 0xFF800000#32 reduces_S24576x64x128_S24576x64 (.inl rfl) rfl r g
  have hf : (fun k : Fin 128 => absf (k0_pay10 s p ws res gam) (ix3 r g k))
      = fun k => FloatOps.absf (F := Ideal) (φ := .f32) (grp (Spec.norm (R r) fun k => gam (ix2 0 k)) g k) :=
    funext fun k => by rw [absf_apply, pay10_at s p ws res gam R hR]
  rw [hf] at hm
  unfold k0_pay11
  rw [mulf_apply, cast_2_31 (a := 24576) (b := 64)]
  unfold amax
  exact congrArg (fun z : EReal => z * Ideal.ofBits .f32 0x3B124925#32) hm

theorem pay1_at (r : Fin 24576) (g : Fin 64) :
    k0_pay1 (k0_pay12 s p ws res gam) (k0_pay13 s p ws res gam) (ix3 r g 0) = expo (amax (grp (Spec.norm (R r) fun k => gam (ix2 0 k)) g)) := by
  rw [← pay11_at s p ws res gam R hR]
  exact exponent_at (k0_pay11 s p ws res gam) _

theorem pay2_at (r : Fin 24576) (c : Fin 8192) :
    k0_pay2 (k0_pay10 s p ws res gam) (k0_pay12 s p ws res gam) (k0_pay13 s p ws res gam) (ix2 r c) = ycode (R r) (fun k => gam (ix2 0 k)) c := by
  unfold k0_pay2
  rw [cast_3_2 (a := 24576) (n := 8192) (b := 64) (c := 128) (by norm_num) _ _ r ⟨c.val / 128, by omega⟩ ⟨c.val % 128, by omega⟩ c
    (by show c.val = c.val / 128 * 128 + c.val % 128; omega)]
  rw [truncf_apply, minimumf_apply, maximumf_apply, mulf_apply, bcast_last (a := 24576) (b := 64) (c := 128), exp2_apply, subf_apply,
    pay1_at s p ws res gam R hR, pay10_at s p ws res gam R hR]
  unfold ycode code
  exact congrArg (fun z : EReal => min (Ideal.ofBits .f32 0x43E00000#32) (max (Ideal.ofBits .f32 0xC3E00000#32)
    (grp (Spec.norm (R r) fun k => gam (ix2 0 k)) ⟨c.val / 128, by omega⟩ ⟨c.val % 128, by omega⟩
      * Ideal.exp2 (z - expo (amax (grp (Spec.norm (R r) fun k => gam (ix2 0 k)) ⟨c.val / 128, by omega⟩)))))) valAt_zero

theorem pay3_at (r : Fin 24576) (g : Fin 64) :
    k0_pay3 (k0_pay12 s p ws res gam) (k0_pay13 s p ws res gam) (ix2 r g) = yscale (R r) (fun k => gam (ix2 0 k)) g := by
  unfold k0_pay3
  rw [cast_31_2 (a := 24576) (b := 64), exp2_apply, pay1_at s p ws res gam R hR]
  rfl

end

end Cert.ReferenceIdeal.Run
end
-- ==== Proof.RFinal.lean ====
module

public import proofs.«01_k».proof.Proof.RVal
public import proofs.«01_k».proof.Proof.Whole
public import proofs.«01_k».proof.Proof.Gen.ReferenceIdeal.Frame
public import Idealize.ShloMosaic.Lib.Pipeline.ValueKit

@[expose] public section

set_option maxRecDepth 16384

noncomputable section

namespace Cert.ReferenceIdeal.Run

open Idealize.ShloMosaic Idealize.ShloMosaic.TcCoe Idealize.SL.Sem
open Idealize.ShloMosaic.Pipeline (Dat)
open Cert.ReferenceIdeal Cert.ReferenceIdeal.Gen
open Cert.Spec

variable (m : (ℓ : Loc nD τ sig) → Buf (Elt Ideal) ℓ) (ρ : Dev nD → PrngReg)

/-! ## The arrays the reference's kernel finds -/

abbrev aX (c : Dev nD) : Arr 24576 11264 := V m c main_v0
abbrev aW (c : Dev nD) : Arr 11264 8192 := V m c main_arg1
abbrev aWs (c : Dev nD) : Arr 1 8192 := V m c main_v1
abbrev aRes (c : Dev nD) : Arr 24576 8192 := V m c main_v2
abbrev aGam (c : Dev nD) : Arr 1 8192 := V m c main_v3

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel

theorem iblk_0 (c : Dev nD) (t : Fin cfg0.N) : (iblk m c 0 t : Arr 24576 11264) = aX m c := by
  refine funext fun y => ?_
  obtain ⟨r, k, rfl⟩ := exists_ix2 (a := 24576) (b := 11264) y
  refine congrArg (aX m c) (ext_ix2 _ r k ?_ ?_) <;> blk_simp [index_0]
theorem iblk_1 (c : Dev nD) (t : Fin cfg0.N) : (iblk m c 1 t : Arr 11264 8192) = aW m c := by
  refine funext fun y => ?_
  obtain ⟨r, k, rfl⟩ := exists_ix2 (a := 11264) (b := 8192) y
  refine congrArg (aW m c) (ext_ix2 _ r k ?_ ?_) <;> blk_simp [index_1]
theorem iblk_2 (c : Dev nD) (t : Fin cfg0.N) : (iblk m c 2 t : Arr 1 8192) = aWs m c := by
  refine funext fun y => ?_
  obtain ⟨r, k, rfl⟩ := exists_ix2 (a := 1) (b := 8192) y
  refine congrArg (aWs m c) (ext_ix2 _ r k ?_ ?_) <;> blk_simp [index_2]
theorem iblk_3 (c : Dev nD) (t : Fin cfg0.N) : (iblk m c 3 t : Arr 24576 8192) = aRes m c := by
  refine funext fun y => ?_
  obtain ⟨r, k, rfl⟩ := exists_ix2 (a := 24576) (b := 8192) y
  refine congrArg (aRes m c) (ext_ix2 _ r k ?_ ?_) <;> blk_simp [index_3]
theorem iblk_4 (c : Dev nD) (t : Fin cfg0.N) : (iblk m c 4 t : Arr 1 8192) = aGam m c := by
  refine funext fun y => ?_
  obtain ⟨r, k, rfl⟩ := exists_ix2 (a := 1) (b := 8192) y
  refine congrArg (aGam m c) (ext_ix2 _ r k ?_ ?_) <;> blk_simp [index_4]

/-! ## The body's stores on whole arrays -/

section
variable (X : Vec Ideal S24576x11264 .bf16) (W : Vec Ideal S11264x8192 .fp8e4m3) (Ws : Vec Ideal S1x8192 .f32) (Res : Vec Ideal S24576x8192 .bf16)
  (G : Vec Ideal S1x8192 .bf16)

theorem resid_at (r : Fin 24576) (n : Fin 8192) :
    k0_pay9 (k0_pay7 X) (k0_pay8 X W) Ws Res (ix2 r n) = resid X W Ws Res (ix2 r n) := by
  rw [pay9_at, pay8_at, pay7_at]; rfl

theorem out0_5_at (r : Fin 24576) (n : Fin 8192) : out0_5 X W Ws Res G (ix2 r n) = resid X W Ws Res (ix2 r n) := by
  unfold out0_5 k0_pay15 k0_pay14
  frame_out
  exact resid_at X W Ws Res r n

theorem out0_6_at (r : Fin 24576) (k : Fin 11264) : out0_6 X W Ws Res G (ix2 r k) = codes X (ix2 r k) := by
  unfold out0_6
  frame_out
  exact pay6_at X r k

theorem out0_7_at (r : Fin 24576) (l : Fin 1) : out0_7 X W Ws Res G (ix2 r l) = scales X (ix2 r l) := by
  unfold out0_7
  frame_out
  exact pay7_at X r l

theorem out0_8_at (r : Fin 24576) (n : Fin 8192) : out0_8 X W Ws Res G (ix2 r n) = ycodes (resid X W Ws Res) G (ix2 r n) := by
  unfold out0_8 k0_pay17 k0_pay16 k0_pay15 k0_pay14
  frame_out
  exact pay2_at _ _ Ws Res G (fun r n => resid X W Ws Res (ix2 r n)) (resid_at X W Ws Res) r n

theorem out0_9_at (r : Fin 24576) (j : Fin 64) : out0_9 X W Ws Res G (ix2 r j) = yscales (resid X W Ws Res) G (ix2 r j) := by
  unfold out0_9 k0_pay17 k0_pay16 k0_pay15 k0_pay14
  frame_out
  exact pay3_at _ _ Ws Res G (fun r n => resid X W Ws Res (ix2 r n)) (resid_at X W Ws Res) r j

end

/-! ## The arrays the reference's kernel leaves -/

theorem final_5 (c : Dev nD) : (dats m 0 c).arrAt 5 cfg0.N = resid (aX m c) (aW m c) (aWs m c) (aRes m c) := by
  refine (dats m 0 c).arrAt_eq_of_covers 5 _ (by decide +kernel) fun t hf y => ?_
  blk_simp
  rw [after0_5]
  obtain ⟨r, n, rfl⟩ := exists_ix2 (a := 24576) (b := 8192) y
  have h : (win0_5.blk t).view.emb (ix2 r n) = ix2 r n := by
    refine ext_ix2 _ r n ?_ ?_ <;> blk_simp [index_5]
  refine (out0_5_at _ _ _ _ _ r n).trans ?_
  rw [h, iblk_0, iblk_1, iblk_2, iblk_3]

theorem final_6 (c : Dev nD) : (dats m 0 c).arrAt 6 cfg0.N = codes (aX m c) := by
  refine (dats m 0 c).arrAt_eq_of_covers 6 _ (by decide +kernel) fun t hf y => ?_
  blk_simp
  rw [after0_6]
  obtain ⟨r, k, rfl⟩ := exists_ix2 (a := 24576) (b := 11264) y
  have h : (win0_6.blk t).view.emb (ix2 r k) = ix2 r k := by
    refine ext_ix2 _ r k ?_ ?_ <;> blk_simp [index_6]
  refine (out0_6_at _ _ _ _ _ r k).trans ?_
  rw [h, iblk_0]

theorem final_7 (c : Dev nD) : (dats m 0 c).arrAt 7 cfg0.N = scales (aX m c) := by
  refine (dats m 0 c).arrAt_eq_of_covers 7 _ (by decide +kernel) fun t hf y => ?_
  blk_simp
  rw [after0_7]
  obtain ⟨r, l, rfl⟩ := exists_ix2 (a := 24576) (b := 1) y
  have h : (win0_7.blk t).view.emb (ix2 r l) = ix2 r l := by
    refine ext_ix2 _ r l ?_ ?_ <;> blk_simp [index_7]
  refine (out0_7_at _ _ _ _ _ r l).trans ?_
  rw [h, iblk_0]

theorem final_8 (c : Dev nD) : (dats m 0 c).arrAt 8 cfg0.N = ycodes (resid (aX m c) (aW m c) (aWs m c) (aRes m c)) (aGam m c) := by
  refine (dats m 0 c).arrAt_eq_of_covers 8 _ (by decide +kernel) fun t hf y => ?_
  blk_simp
  rw [after0_8]
  obtain ⟨r, n, rfl⟩ := exists_ix2 (a := 24576) (b := 8192) y
  have h : (win0_8.blk t).view.emb (ix2 r n) = ix2 r n := by
    refine ext_ix2 _ r n ?_ ?_ <;> blk_simp [index_8]
  refine (out0_8_at _ _ _ _ _ r n).trans ?_
  rw [h, iblk_0, iblk_1, iblk_2, iblk_3, iblk_4]

theorem final_9 (c : Dev nD) : (dats m 0 c).arrAt 9 cfg0.N = yscales (resid (aX m c) (aW m c) (aWs m c) (aRes m c)) (aGam m c) := by
  refine (dats m 0 c).arrAt_eq_of_covers 9 _ (by decide +kernel) fun t hf y => ?_
  blk_simp
  rw [after0_9]
  obtain ⟨r, j, rfl⟩ := exists_ix2 (a := 24576) (b := 64) y
  have h : (win0_9.blk t).view.emb (ix2 r j) = ix2 r j := by
    refine ext_ix2 _ r j ?_ ?_ <;> blk_simp [index_9]
  refine (out0_9_at _ _ _ _ _ r j).trans ?_
  rw [h, iblk_0, iblk_1, iblk_2, iblk_3, iblk_4]

/-! ## From the arguments to the results -/

theorem aX_eq (c : Dev nD) : aX m c = shapeCast S24576x11264 (m ((c : Thread nD τ).loc main_arg0)) shapeCasts_S4x6144x11264_S24576x11264 := by
  show StableHlo.after hostOps0 _ (Proc.devRef .tc main_v0) = _
  after_results; rfl
theorem aW_eq (c : Dev nD) : aW m c = m ((c : Thread nD τ).loc main_arg1) := V_main_arg1 m c
theorem aWs_eq (c : Dev nD) : aWs m c = shapeCast S1x8192 (m ((c : Thread nD τ).loc main_arg2)) shapeCasts_S8192_S1x8192 := by
  show StableHlo.after hostOps0 _ (Proc.devRef .tc main_v1) = _
  after_results; rfl
theorem aRes_eq (c : Dev nD) : aRes m c = shapeCast S24576x8192 (m ((c : Thread nD τ).loc main_arg3)) shapeCasts_S4x6144x8192_S24576x8192 := by
  show StableHlo.after hostOps0 _ (Proc.devRef .tc main_v2) = _
  after_results; rfl
theorem aGam_eq (c : Dev nD) : aGam m c = shapeCast S1x8192 (m ((c : Thread nD τ).loc main_arg4)) shapeCasts_S8192_S1x8192 := by
  show StableHlo.after hostOps0 _ (Proc.devRef .tc main_v3) = _
  after_results; rfl

/-- What the kernel's arrays hold when it returns. -/
abbrev W1 (c : Dev nD) : Valuation τ sig (Elt Ideal) :=
  Pipeline.withArrays spec0 c (V0 m c) fun w => (dats m 0 c).arrAt w cfg0.N

theorem W1_arr (c : Dev nD) (w : Fin cfg0.W) : W1 m c (Proc.devRef .tc (Pipeline.arrRef spec0 w)) = (dats m 0 c).arrAt w cfg0.N :=
  Pipeline.withArrays_arr spec0 launch0.win.arr_inj c _ _ w

abbrev tail (c : Dev nD) (b : Ref sig .tc) : Buf (Elt Ideal) ((c : Thread nD τ).loc b) := Pipeline.afterTail₀ cfgs (dats m) 0 (V0 m) [hostOps1] c b

theorem tail_v5 (c : Dev nD) : tail m c main_v5 = shapeCast S4x6144x8192 (resid (aX m c) (aW m c) (aWs m c) (aRes m c)) shapeCasts_S24576x8192_S4x6144x8192 := by
  rw [← final_5, ← W1_arr m c 5]
  show StableHlo.after hostOps1 (W1 m c) (Proc.devRef .tc main_v5) = _
  after_results; rfl
theorem tail_v6 (c : Dev nD) : tail m c main_v6 = shapeCast S4x6144x11264 (codes (aX m c)) shapeCasts_S24576x11264_S4x6144x11264 := by
  rw [← final_6, ← W1_arr m c 6]
  show StableHlo.after hostOps1 (W1 m c) (Proc.devRef .tc main_v6) = _
  after_results; rfl
theorem tail_v7 (c : Dev nD) : tail m c main_v7 = shapeCast S4x6144x1 (scales (aX m c)) shapeCasts_S24576x1_S4x6144x1 := by
  rw [← final_7, ← W1_arr m c 7]
  show StableHlo.after hostOps1 (W1 m c) (Proc.devRef .tc main_v7) = _
  after_results; rfl
theorem tail_v8 (c : Dev nD) : tail m c main_v8
    = shapeCast S4x6144x8192 (ycodes (resid (aX m c) (aW m c) (aWs m c) (aRes m c)) (aGam m c)) shapeCasts_S24576x8192_S4x6144x8192 := by
  rw [← final_8, ← W1_arr m c 8]
  show StableHlo.after hostOps1 (W1 m c) (Proc.devRef .tc main_v8) = _
  after_results; rfl
theorem tail_v9 (c : Dev nD) : tail m c main_v9
    = shapeCast S4x6144x64 (yscales (resid (aX m c) (aW m c) (aWs m c) (aRes m c)) (aGam m c)) shapeCasts_S24576x64_S4x6144x64 := by
  rw [← final_9, ← W1_arr m c 9]
  show StableHlo.after hostOps1 (W1 m c) (Proc.devRef .tc main_v9) = _
  after_results; rfl

/-- The whole run: the results at the values above, the arguments as launched. -/
theorem run : θ_run defs (onTc (τ := τ) (main (F := Ideal))) ⟨m, fun _ => 0, ρ⟩ (fun r => ∀ c : Dev nD,
    r.2.mem ((c.tc : Thread nD τ).loc main_v5) = tail m c main_v5
      ∧ r.2.mem ((c.tc : Thread nD τ).loc main_v6) = tail m c main_v6
      ∧ r.2.mem ((c.tc : Thread nD τ).loc main_v7) = tail m c main_v7
      ∧ r.2.mem ((c.tc : Thread nD τ).loc main_v8) = tail m c main_v8
      ∧ r.2.mem ((c.tc : Thread nD τ).loc main_v9) = tail m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v5 (Pipeline.mem_restRefs_of main_v5 (by decide) (by decide)),
      (h c).2 main_v6 (Pipeline.mem_restRefs_of main_v6 (by decide) (by decide)),
      (h c).2 main_v7 (Pipeline.mem_restRefs_of main_v7 (by decide) (by decide)),
      (h c).2 main_v8 (Pipeline.mem_restRefs_of main_v8 (by decide) (by decide)),
      (h c).2 main_v9 (Pipeline.mem_restRefs_of main_v9 (by decide) (by decide)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.Run
end
-- ==== Proof.lean ====
module

public import proofs.«01_k».proof.Defs
public import proofs.«01_k».proof.Proof.BitsRun
public import proofs.«01_k».proof.Proof.KFinal
public import proofs.«01_k».proof.Proof.RFinal
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.ShloMosaic.TcCoe Idealize.SL.Sem
open Cert.Spec

/-! ## The kernel's results and the reference's are the same arrays -/

section
open Cert.KernelIdeal Cert.KernelIdeal.Gen

variable (m : (ℓ : Loc nD τ sig) → Buf (Elt Ideal) ℓ) (ρ : Dev nD → PrngReg)

/-- The kernel's run: each result at the last boundary's contents, the arguments as launched. -/
theorem kernel_run : θ_run (defs (F := Ideal)) (onTc (τ := τ) (main (F := Ideal))) ⟨m, fun _ => 0, ρ⟩ (fun r => ∀ c : Dev nD,
    r.2.mem ((c.tc : Thread nD τ).loc main_v6) = Run.W5 m ρ c (Proc.devRef .tc main_v6)
      ∧ r.2.mem ((c.tc : Thread nD τ).loc main_v7) = Run.W5 m ρ c (Proc.devRef .tc main_v7)
      ∧ r.2.mem ((c.tc : Thread nD τ).loc main_v8) = Run.W5 m ρ c (Proc.devRef .tc main_v8)
      ∧ r.2.mem ((c.tc : Thread nD τ).loc main_v9) = Run.W5 m ρ c (Proc.devRef .tc main_v9)
      ∧ r.2.mem ((c.tc : Thread nD τ).loc main_v10) = Run.W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c _ (Run.mem_uc main_v6 (by decide)), h.1 c _ (Run.mem_uc main_v7 (by decide)),
      h.1 c _ (Run.mem_uc main_v8 (by decide)), h.1 c _ (Run.mem_uc main_v9 (by decide)), h.1 c _ (Run.mem_uc main_v10 (by decide)),
      (h.1 c _ (Run.mem_uc main_arg0 (by decide))).trans (Run.W5_main_arg0 m ρ c),
      (h.1 c _ (Run.mem_uc main_arg1 (by decide))).trans (Run.W5_main_arg1 m ρ c),
      (h.1 c _ (Run.mem_uc main_arg2 (by decide))).trans (Run.W5_main_arg2 m ρ c),
      (h.1 c _ (Run.mem_uc main_arg3 (by decide))).trans (Run.W5_main_arg3 m ρ c),
      (h.1 c _ (Run.mem_uc main_arg4 (by decide))).trans (Run.W5_main_arg4 m ρ c)⟩) (Run.run m ρ)

end

/-- From the same arguments both programs end with the same five results. -/
theorem algebraic : Cert.algebraic_KernelIdeal_ReferenceIdeal (hKernelIdeal := Cert.KernelIdeal.Gen.facts)
    (hReferenceIdeal := Cert.ReferenceIdeal.Gen.facts) := by
  intro m g m' g' _ hagree
  have hX (c : Dev Cert.KernelIdeal.nD) : Cert.ReferenceIdeal.Run.aX m' c = Cert.KernelIdeal.Run.fX m c :=
    (Cert.ReferenceIdeal.Run.aX_eq m' c).trans (by rw [(hagree c).1])
  have hW (c : Dev Cert.KernelIdeal.nD) : Cert.ReferenceIdeal.Run.aW m' c = Cert.KernelIdeal.Run.fW m c :=
    (Cert.ReferenceIdeal.Run.aW_eq m' c).trans (hagree c).2.1
  have hWs (c : Dev Cert.KernelIdeal.nD) : Cert.ReferenceIdeal.Run.aWs m' c = Cert.KernelIdeal.Run.fWs m c :=
    (Cert.ReferenceIdeal.Run.aWs_eq m' c).trans (by rw [(hagree c).2.2.1])
  have hRes (c : Dev Cert.KernelIdeal.nD) : Cert.ReferenceIdeal.Run.aRes m' c = Cert.KernelIdeal.Run.fRes m c :=
    (Cert.ReferenceIdeal.Run.aRes_eq m' c).trans (by rw [(hagree c).2.2.2.1])
  have hG (c : Dev Cert.KernelIdeal.nD) : Cert.ReferenceIdeal.Run.aGam m' c = Cert.KernelIdeal.Run.fGam m c :=
    (Cert.ReferenceIdeal.Run.aGam_eq m' c).trans (by rw [(hagree c).2.2.2.2])
  refine ⟨_, _, _, _, _, kernel_run m g, ?_⟩
  refine (θ_run Cert.ReferenceIdeal.defs _ _).mono (fun r h c => ?_) (Cert.ReferenceIdeal.Run.run m' g')
  obtain ⟨h5, h6, h7, h8, h9, hargs⟩ := h c
  refine ⟨h5.trans ?_, h6.trans ?_, h7.trans ?_, h8.trans ?_, h9.trans ?_, hargs⟩
  · rw [Cert.ReferenceIdeal.Run.tail_v5, hX, hW, hWs, hRes]; exact (Cert.KernelIdeal.Run.W5_v6 m g c).symm
  · rw [Cert.ReferenceIdeal.Run.tail_v6, hX]; exact (Cert.KernelIdeal.Run.W5_v7 m g c).symm
  · rw [Cert.ReferenceIdeal.Run.tail_v7, hX]; exact (Cert.KernelIdeal.Run.W5_v8 m g c).symm
  · rw [Cert.ReferenceIdeal.Run.tail_v8, hX, hW, hWs, hRes, hG]; exact (Cert.KernelIdeal.Run.W5_v9 m g c).symm
  · rw [Cert.ReferenceIdeal.Run.tail_v9, hX, hW, hWs, hRes, hG]; exact (Cert.KernelIdeal.Run.W5_v10 m g c).symm

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, algebraic⟩

end Cert.Proof

end
